-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "tenth1" .f32 0x3DCCCCCD#32 ((1 / 10 : ℝ) : EReal)
  ∧ IdealRules.named_const.Statement Cert.KernelIdeal.κ "tenth2" .f32 0x3E4CCCCD#32 ((1 / 5 : ℝ) : EReal)
  ∧ IdealRules.named_const.Statement Cert.KernelIdeal.κ "tenth3" .f32 0x3E99999A#32 ((3 / 10 : ℝ) : EReal)
  ∧ IdealRules.named_const.Statement Cert.KernelIdeal.κ "tenth4" .f32 0x3ECCCCCD#32 ((2 / 5 : ℝ) : EReal)
  ∧ IdealRules.named_const.Statement Cert.KernelIdeal.κ "tenth6" .f32 0x3F19999A#32 ((3 / 5 : ℝ) : EReal)
  ∧ IdealRules.named_const.Statement Cert.KernelIdeal.κ "tenth7" .f32 0x3F333333#32 ((7 / 10 : ℝ) : EReal)
  ∧ IdealRules.named_const.Statement Cert.KernelIdeal.κ "tenth8" .f32 0x3F4CCCCD#32 ((4 / 5 : ℝ) : EReal)
  ∧ IdealRules.named_const.Statement Cert.KernelIdeal.κ "tenth9" .f32 0x3F666666#32 ((9 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2000000x32 : Shape := ⟨2, ![2000000, 32]⟩
abbrev S2000000 : Shape := ⟨1, ![2000000]⟩
abbrev S80x8x3125 : Shape := ⟨3, ![80, 8, 3125]⟩
abbrev S1x10 : Shape := ⟨2, ![1, 10]⟩
abbrev S25000x32 : Shape := ⟨2, ![25000, 32]⟩
abbrev S1x8x3125 : Shape := ⟨3, ![1, 8, 3125]⟩
abbrev S176x1 : Shape := ⟨2, ![176, 1]⟩
abbrev S32x25000 : Shape := ⟨2, ![32, 25000]⟩
abbrev S32x3125 : Shape := ⟨2, ![32, 3125]⟩
abbrev S1x32x3125 : Shape := ⟨3, ![1, 32, 3125]⟩
abbrev S8x32x3125 : Shape := ⟨3, ![8, 32, 3125]⟩
abbrev S8x8x3125 : Shape := ⟨3, ![8, 8, 3125]⟩
abbrev S8x3125 : Shape := ⟨2, ![8, 3125]⟩
abbrev S3125 : Shape := ⟨1, ![3125]⟩
abbrev S1x3125 : Shape := ⟨2, ![1, 3125]⟩
abbrev S8x1x3125 : Shape := ⟨3, ![8, 1, 3125]⟩
abbrev S256x3125 : Shape := ⟨2, ![256, 3125]⟩
abbrev S8x256 : Shape := ⟨2, ![8, 256]⟩
abbrev S11x8x3125 : Shape := ⟨3, ![11, 8, 3125]⟩
abbrev S22x8x3125 : Shape := ⟨3, ![22, 8, 3125]⟩
abbrev S176x3125 : Shape := ⟨2, ![176, 3125]⟩
abbrev S3125x1 : Shape := ⟨2, ![3125, 1]⟩
abbrev S22x8x1 : Shape := ⟨3, ![22, 8, 1]⟩
abbrev S22x1 : Shape := ⟨2, ![22, 1]⟩
abbrev S1x22 : Shape := ⟨2, ![1, 22]⟩

abbrev nBuf : Space → Nat
  | .hbm => 4
  | .vmem => 6
  | .smem => 0
  | _ => 0

abbrev bufTy : (tb : Table) → Fin (tcTables nBuf tb) → BufTy
  | .hbm, ⟨0, _⟩ => ⟨S2000000x32, .f32⟩
  | .hbm, ⟨1, _⟩ => ⟨S2000000, .i32⟩
  | .hbm, ⟨2, _⟩ => ⟨S80x8x3125, .i32⟩
  | .hbm, ⟨3, _⟩ => ⟨S1x10, .f32⟩
  | .local _ .vmem, ⟨0, _⟩ => ⟨S25000x32, .f32⟩
  | .local _ .vmem, ⟨1, _⟩ => ⟨S25000x32, .f32⟩
  | .local _ .vmem, ⟨2, _⟩ => ⟨S1x8x3125, .i32⟩
  | .local _ .vmem, ⟨3, _⟩ => ⟨S1x8x3125, .i32⟩
  | .local _ .vmem, ⟨4, _⟩ => ⟨S1x10, .f32⟩
  | .local _ .vmem, ⟨5, _⟩ => ⟨S176x1, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v266 : BitVec 1 := Scalar.cmpi .eq arg0 c79_i32
  let v267 : BitVec 32 := Scalar.extui v266
  let c0_i32_65 : BitVec 32 := 0#32
  let v268 : BitVec 1 := Scalar.cmpi .ne v267 c0_i32_65
  v268

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S25000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x3125 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "tenth1" => some ((1 / 10 : ℝ) : EReal)
  | "tenth2" => some ((1 / 5 : ℝ) : EReal)
  | "tenth3" => some ((3 / 10 : ℝ) : EReal)
  | "tenth4" => some ((2 / 5 : ℝ) : EReal)
  | "tenth6" => some ((3 / 5 : ℝ) : EReal)
  | "tenth7" => some ((7 / 10 : ℝ) : EReal)
  | "tenth8" => some ((4 / 5 : ℝ) : EReal)
  | "tenth9" => some ((9 / 10 : ℝ) : EReal)
  | _ => none
-- ==== ReferenceIdeal.lean ====
abbrev S2000000x32 : Shape := ⟨2, ![2000000, 32]⟩
abbrev S2000000 : Shape := ⟨1, ![2000000]⟩
abbrev S_ : Shape := ⟨0, ![]⟩
abbrev S10 : Shape := ⟨1, ![10]⟩
abbrev S1 : Shape := ⟨1, ![1]⟩
abbrev S11 : Shape := ⟨1, ![11]⟩
abbrev S1x10 : Shape := ⟨2, ![1, 10]⟩

abbrev nBuf : Space → Nat
  | .hbm => 340
  | .vmem => 0
  | .smem => 0
  | _ => 0

abbrev hbmTy0_0 (i : Nat) : BufTy := match i % 128 with
  | 0 => ⟨S2000000x32, .f32⟩
  | 1 => ⟨S2000000, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S10, .f32⟩
  | 10 => ⟨S_, .f32⟩
  | 11 => ⟨S10, .f32⟩
  | 12 => ⟨S10, .f32⟩
  | 13 => ⟨S1, .f32⟩
  | 14 => ⟨S_, .f32⟩
  | 15 => ⟨S10, .f32⟩
  | 16 => ⟨S10, .f32⟩
  | 17 => ⟨S10, .f32⟩
  | 18 => ⟨S10, .f32⟩
  | 19 => ⟨S1, .f32⟩
  | 20 => ⟨S10, .f32⟩
  | 21 => ⟨S10, .f32⟩
  | 22 => ⟨S10, .f32⟩
  | 23 => ⟨S1, .f32⟩
  | 24 => ⟨S11, .f32⟩
  | 25 => ⟨S10, .f32⟩
  | 26 => ⟨S10, .f32⟩
  | 27 => ⟨S_, .f32⟩
  | 28 => ⟨S2000000x32, .f32⟩
  | 29 => ⟨S2000000x32, .f32⟩
  | 30 => ⟨S_, .f32⟩
  | 31 => ⟨S2000000, .f32⟩
  | 32 => ⟨S2000000x32, .i32⟩
  | 33 => ⟨S_, .f32⟩
  | 34 => ⟨S_, .i32⟩
  | 35 => ⟨S2000000, .f32⟩
  | 36 => ⟨S2000000, .i32⟩
  | 37 => ⟨S2000000, .i1⟩
  | 38 => ⟨S1, .f32⟩
  | 39 => ⟨S_, .f32⟩
  | 40 => ⟨S2000000, .f32⟩
  | 41 => ⟨S2000000, .i1⟩
  | 42 => ⟨S1, .f32⟩
  | 43 => ⟨S_, .f32⟩
  | 44 => ⟨S2000000, .f32⟩
  | 45 => ⟨S2000000, .i1⟩
  | 46 => ⟨S2000000, .i1⟩
  | 47 => ⟨S2000000, .i32⟩
  | 48 => ⟨S_, .i32⟩
  | 49 => ⟨S_, .i32⟩
  | 50 => ⟨S2000000, .f32⟩
  | 51 => ⟨S_, .f32⟩
  | 52 => ⟨S_, .f32⟩
  | 53 => ⟨S_, .f32⟩
  | 54 => ⟨S_, .f32⟩
  | 55 => ⟨S_, .f32⟩
  | 56 => ⟨S_, .i1⟩
  | 57 => ⟨S2000000, .i1⟩
  | 58 => ⟨S2000000, .f32⟩
  | 59 => ⟨S_, .f32⟩
  | 60 => ⟨S_, .f32⟩
  | 61 => ⟨S_, .i32⟩
  | 62 => ⟨S_, .i32⟩
  | 63 => ⟨S_, .f32⟩
  | 64 => ⟨S_, .f32⟩
  | 65 => ⟨S_, .f32⟩
  | 66 => ⟨S_, .f32⟩
  | 67 => ⟨S1, .f32⟩
  | 68 => ⟨S_, .f32⟩
  | 69 => ⟨S2000000, .f32⟩
  | 70 => ⟨S2000000, .i1⟩
  | 71 => ⟨S1, .f32⟩
  | 72 => ⟨S_, .f32⟩
  | 73 => ⟨S2000000, .f32⟩
  | 74 => ⟨S2000000, .i1⟩
  | 75 => ⟨S2000000, .i1⟩
  | 76 => ⟨S2000000, .i32⟩
  | 77 => ⟨S_, .i32⟩
  | 78 => ⟨S_, .i32⟩
  | 79 => ⟨S2000000, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S2000000, .i1⟩
  | 87 => ⟨S2000000, .f32⟩
  | 88 => ⟨S_, .f32⟩
  | 89 => ⟨S_, .f32⟩
  | 90 => ⟨S_, .i32⟩
  | 91 => ⟨S_, .i32⟩
  | 92 => ⟨S_, .f32⟩
  | 93 => ⟨S_, .f32⟩
  | 94 => ⟨S_, .f32⟩
  | 95 => ⟨S_, .f32⟩
  | 96 => ⟨S1, .f32⟩
  | 97 => ⟨S_, .f32⟩
  | 98 => ⟨S2000000, .f32⟩
  | 99 => ⟨S2000000, .i1⟩
  | 100 => ⟨S1, .f32⟩
  | 101 => ⟨S_, .f32⟩
  | 102 => ⟨S2000000, .f32⟩
  | 103 => ⟨S2000000, .i1⟩
  | 104 => ⟨S2000000, .i1⟩
  | 105 => ⟨S2000000, .i32⟩
  | 106 => ⟨S_, .i32⟩
  | 107 => ⟨S_, .i32⟩
  | 108 => ⟨S2000000, .f32⟩
  | 109 => ⟨S_, .f32⟩
  | 110 => ⟨S_, .f32⟩
  | 111 => ⟨S_, .f32⟩
  | 112 => ⟨S_, .f32⟩
  | 113 => ⟨S_, .f32⟩
  | 114 => ⟨S_, .i1⟩
  | 115 => ⟨S2000000, .i1⟩
  | 116 => ⟨S2000000, .f32⟩
  | 117 => ⟨S_, .f32⟩
  | 118 => ⟨S_, .f32⟩
  | 119 => ⟨S_, .i32⟩
  | 120 => ⟨S_, .i32⟩
  | 121 => ⟨S_, .f32⟩
  | 122 => ⟨S_, .f32⟩
  | 123 => ⟨S_, .f32⟩
  | 124 => ⟨S_, .f32⟩
  | 125 => ⟨S1, .f32⟩
  | 126 => ⟨S_, .f32⟩
  | 127 => ⟨S2000000, .f32⟩
  | _ => ⟨S2000000x32, .f32⟩

abbrev hbmTy0_1 (i : Nat) : BufTy := match i % 128 with
  | 0 => ⟨S2000000, .i1⟩
  | 1 => ⟨S1, .f32⟩
  | 2 => ⟨S_, .f32⟩
  | 3 => ⟨S2000000, .f32⟩
  | 4 => ⟨S2000000, .i1⟩
  | 5 => ⟨S2000000, .i1⟩
  | 6 => ⟨S2000000, .i32⟩
  | 7 => ⟨S_, .i32⟩
  | 8 => ⟨S_, .i32⟩
  | 9 => ⟨S2000000, .f32⟩
  | 10 => ⟨S_, .f32⟩
  | 11 => ⟨S_, .f32⟩
  | 12 => ⟨S_, .f32⟩
  | 13 => ⟨S_, .f32⟩
  | 14 => ⟨S_, .f32⟩
  | 15 => ⟨S_, .i1⟩
  | 16 => ⟨S2000000, .i1⟩
  | 17 => ⟨S2000000, .f32⟩
  | 18 => ⟨S_, .f32⟩
  | 19 => ⟨S_, .f32⟩
  | 20 => ⟨S_, .i32⟩
  | 21 => ⟨S_, .i32⟩
  | 22 => ⟨S_, .f32⟩
  | 23 => ⟨S_, .f32⟩
  | 24 => ⟨S_, .f32⟩
  | 25 => ⟨S_, .f32⟩
  | 26 => ⟨S1, .f32⟩
  | 27 => ⟨S_, .f32⟩
  | 28 => ⟨S2000000, .f32⟩
  | 29 => ⟨S2000000, .i1⟩
  | 30 => ⟨S1, .f32⟩
  | 31 => ⟨S_, .f32⟩
  | 32 => ⟨S2000000, .f32⟩
  | 33 => ⟨S2000000, .i1⟩
  | 34 => ⟨S2000000, .i1⟩
  | 35 => ⟨S2000000, .i32⟩
  | 36 => ⟨S_, .i32⟩
  | 37 => ⟨S_, .i32⟩
  | 38 => ⟨S2000000, .f32⟩
  | 39 => ⟨S_, .f32⟩
  | 40 => ⟨S_, .f32⟩
  | 41 => ⟨S_, .f32⟩
  | 42 => ⟨S_, .f32⟩
  | 43 => ⟨S_, .f32⟩
  | 44 => ⟨S_, .i1⟩
  | 45 => ⟨S2000000, .i1⟩
  | 46 => ⟨S2000000, .f32⟩
  | 47 => ⟨S_, .f32⟩
  | 48 => ⟨S_, .f32⟩
  | 49 => ⟨S_, .i32⟩
  | 50 => ⟨S_, .i32⟩
  | 51 => ⟨S_, .f32⟩
  | 52 => ⟨S_, .f32⟩
  | 53 => ⟨S_, .f32⟩
  | 54 => ⟨S_, .f32⟩
  | 55 => ⟨S1, .f32⟩
  | 56 => ⟨S_, .f32⟩
  | 57 => ⟨S2000000, .f32⟩
  | 58 => ⟨S2000000, .i1⟩
  | 59 => ⟨S1, .f32⟩
  | 60 => ⟨S_, .f32⟩
  | 61 => ⟨S2000000, .f32⟩
  | 62 => ⟨S2000000, .i1⟩
  | 63 => ⟨S2000000, .i1⟩
  | 64 => ⟨S2000000, .i32⟩
  | 65 => ⟨S_, .i32⟩
  | 66 => ⟨S_, .i32⟩
  | 67 => ⟨S2000000, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S2000000, .i1⟩
  | 75 => ⟨S2000000, .f32⟩
  | 76 => ⟨S_, .f32⟩
  | 77 => ⟨S_, .f32⟩
  | 78 => ⟨S_, .i32⟩
  | 79 => ⟨S_, .i32⟩
  | 80 => ⟨S_, .f32⟩
  | 81 => ⟨S_, .f32⟩
  | 82 => ⟨S_, .f32⟩
  | 83 => ⟨S_, .f32⟩
  | 84 => ⟨S1, .f32⟩
  | 85 => ⟨S_, .f32⟩
  | 86 => ⟨S2000000, .f32⟩
  | 87 => ⟨S2000000, .i1⟩
  | 88 => ⟨S1, .f32⟩
  | 89 => ⟨S_, .f32⟩
  | 90 => ⟨S2000000, .f32⟩
  | 91 => ⟨S2000000, .i1⟩
  | 92 => ⟨S2000000, .i1⟩
  | 93 => ⟨S2000000, .i32⟩
  | 94 => ⟨S_, .i32⟩
  | 95 => ⟨S_, .i32⟩
  | 96 => ⟨S2000000, .f32⟩
  | 97 => ⟨S_, .f32⟩
  | 98 => ⟨S_, .f32⟩
  | 99 => ⟨S_, .f32⟩
  | 100 => ⟨S_, .f32⟩
  | 101 => ⟨S_, .f32⟩
  | 102 => ⟨S_, .i1⟩
  | 103 => ⟨S2000000, .i1⟩
  | 104 => ⟨S2000000, .f32⟩
  | 105 => ⟨S_, .f32⟩
  | 106 => ⟨S_, .f32⟩
  | 107 => ⟨S_, .i32⟩
  | 108 => ⟨S_, .i32⟩
  | 109 => ⟨S_, .f32⟩
  | 110 => ⟨S_, .f32⟩
  | 111 => ⟨S_, .f32⟩
  | 112 => ⟨S_, .f32⟩
  | 113 => ⟨S1, .f32⟩
  | 114 => ⟨S_, .f32⟩
  | 115 => ⟨S2000000, .f32⟩
  | 116 => ⟨S2000000, .i1⟩
  | 117 => ⟨S1, .f32⟩
  | 118 => ⟨S_, .f32⟩
  | 119 => ⟨S2000000, .f32⟩
  | 120 => ⟨S2000000, .i1⟩
  | 121 => ⟨S2000000, .i1⟩
  | 122 => ⟨S2000000, .i32⟩
  | 123 => ⟨S_, .i32⟩
  | 124 => ⟨S_, .i32⟩
  | 125 => ⟨S2000000, .f32⟩
  | 126 => ⟨S_, .f32⟩
  | 127 => ⟨S_, .f32⟩
  | _ => ⟨S2000000x32, .f32⟩

abbrev hbmTy0_2 (i : Nat) : BufTy := match i % 128 with
  | 0 => ⟨S_, .f32⟩
  | 1 => ⟨S_, .f32⟩
  | 2 => ⟨S_, .f32⟩
  | 3 => ⟨S_, .i1⟩
  | 4 => ⟨S2000000, .i1⟩
  | 5 => ⟨S2000000, .f32⟩
  | 6 => ⟨S_, .f32⟩
  | 7 => ⟨S_, .f32⟩
  | 8 => ⟨S_, .i32⟩
  | 9 => ⟨S_, .i32⟩
  | 10 => ⟨S_, .f32⟩
  | 11 => ⟨S_, .f32⟩
  | 12 => ⟨S_, .f32⟩
  | 13 => ⟨S_, .f32⟩
  | 14 => ⟨S1, .f32⟩
  | 15 => ⟨S_, .f32⟩
  | 16 => ⟨S2000000, .f32⟩
  | 17 => ⟨S2000000, .i1⟩
  | 18 => ⟨S1, .f32⟩
  | 19 => ⟨S_, .f32⟩
  | 20 => ⟨S2000000, .f32⟩
  | 21 => ⟨S2000000, .i1⟩
  | 22 => ⟨S2000000, .i1⟩
  | 23 => ⟨S2000000, .i32⟩
  | 24 => ⟨S_, .i32⟩
  | 25 => ⟨S_, .i32⟩
  | 26 => ⟨S2000000, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S2000000, .i1⟩
  | 34 => ⟨S2000000, .f32⟩
  | 35 => ⟨S_, .f32⟩
  | 36 => ⟨S_, .f32⟩
  | 37 => ⟨S_, .i32⟩
  | 38 => ⟨S_, .i32⟩
  | 39 => ⟨S_, .f32⟩
  | 40 => ⟨S_, .f32⟩
  | 41 => ⟨S_, .f32⟩
  | 42 => ⟨S_, .f32⟩
  | 43 => ⟨S1, .f32⟩
  | 44 => ⟨S_, .f32⟩
  | 45 => ⟨S2000000, .f32⟩
  | 46 => ⟨S2000000, .i1⟩
  | 47 => ⟨S1, .f32⟩
  | 48 => ⟨S_, .f32⟩
  | 49 => ⟨S2000000, .f32⟩
  | 50 => ⟨S2000000, .i1⟩
  | 51 => ⟨S2000000, .i1⟩
  | 52 => ⟨S2000000, .i32⟩
  | 53 => ⟨S_, .i32⟩
  | 54 => ⟨S_, .i32⟩
  | 55 => ⟨S2000000, .f32⟩
  | 56 => ⟨S_, .f32⟩
  | 57 => ⟨S_, .f32⟩
  | 58 => ⟨S_, .f32⟩
  | 59 => ⟨S_, .f32⟩
  | 60 => ⟨S_, .f32⟩
  | 61 => ⟨S_, .i1⟩
  | 62 => ⟨S2000000, .i1⟩
  | 63 => ⟨S2000000, .f32⟩
  | 64 => ⟨S_, .f32⟩
  | 65 => ⟨S_, .f32⟩
  | 66 => ⟨S_, .i32⟩
  | 67 => ⟨S_, .i32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S1, .f32⟩
  | 82 => ⟨S10, .f32⟩
  | 83 => ⟨S1x10, .f32⟩
  | _ => ⟨S2000000x32, .f32⟩

abbrev hbmTy (i : Nat) : BufTy := match i / 128 with
  | 0 => hbmTy0_0 i
  | 1 => hbmTy0_1 i
  | 2 => hbmTy0_2 i
  | _ => ⟨S2000000x32, .f32⟩

abbrev bufTy : (tb : Table) → Fin (tcTables nBuf tb) → BufTy
  | .hbm, ⟨i, _⟩ => hbmTy i
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_call1_v0 : Ref sig .tc := ⟨.hbm, 32, rfl⟩
abbrev main_call1_cst : Ref sig .tc := ⟨.hbm, 33, rfl⟩
abbrev main_call1_c : Ref sig .tc := ⟨.hbm, 34, rfl⟩
abbrev main_call1_v1_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_c_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_8 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_9 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_cst_11 : Ref sig .tc := ⟨.hbm, 82, rfl⟩
abbrev main_v43 : Ref sig .tc := ⟨.hbm, 83, rfl⟩
abbrev main_cst_12 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_13 : Ref sig .tc := ⟨.hbm, 88, rfl⟩
abbrev main_v47 : Ref sig .tc := ⟨.hbm, 89, rfl⟩
abbrev main_c_14 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_15 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_cst_18 : Ref sig .tc := ⟨.hbm, 111, rfl⟩
abbrev main_v65 : Ref sig .tc := ⟨.hbm, 112, rfl⟩
abbrev main_cst_19 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_20 : Ref sig .tc := ⟨.hbm, 117, rfl⟩
abbrev main_v69 : Ref sig .tc := ⟨.hbm, 118, rfl⟩
abbrev main_c_21 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_22 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_23 : Ref sig .tc := ⟨.hbm, 135, rfl⟩
abbrev main_v84 : Ref sig .tc := ⟨.hbm, 136, rfl⟩
abbrev main_v85 : Ref sig .tc := ⟨.hbm, 137, rfl⟩
abbrev main_cst_24 : Ref sig .tc := ⟨.hbm, 138, rfl⟩
abbrev main_v86 : Ref sig .tc := ⟨.hbm, 139, rfl⟩
abbrev main_cst_25 : Ref sig .tc := ⟨.hbm, 140, rfl⟩
abbrev main_v87 : Ref sig .tc := ⟨.hbm, 141, rfl⟩
abbrev main_cst_26 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_27 : Ref sig .tc := ⟨.hbm, 146, rfl⟩
abbrev main_v91 : Ref sig .tc := ⟨.hbm, 147, rfl⟩
abbrev main_c_28 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_29 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_c_30 : Ref sig .tc := ⟨.hbm, 164, rfl⟩
abbrev main_v106 : Ref sig .tc := ⟨.hbm, 165, rfl⟩
abbrev main_v107 : Ref sig .tc := ⟨.hbm, 166, rfl⟩
abbrev main_cst_31 : Ref sig .tc := ⟨.hbm, 167, rfl⟩
abbrev main_v108 : Ref sig .tc := ⟨.hbm, 168, rfl⟩
abbrev main_cst_32 : Ref sig .tc := ⟨.hbm, 169, rfl⟩
abbrev main_v109 : Ref sig .tc := ⟨.hbm, 170, rfl⟩
abbrev main_cst_33 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_34 : Ref sig .tc := ⟨.hbm, 175, rfl⟩
abbrev main_v113 : Ref sig .tc := ⟨.hbm, 176, rfl⟩
abbrev main_c_35 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_36 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_c_37 : Ref sig .tc := ⟨.hbm, 193, rfl⟩
abbrev main_v128 : Ref sig .tc := ⟨.hbm, 194, rfl⟩
abbrev main_v129 : Ref sig .tc := ⟨.hbm, 195, rfl⟩
abbrev main_cst_38 : Ref sig .tc := ⟨.hbm, 196, rfl⟩
abbrev main_v130 : Ref sig .tc := ⟨.hbm, 197, rfl⟩
abbrev main_cst_39 : Ref sig .tc := ⟨.hbm, 198, rfl⟩
abbrev main_v131 : Ref sig .tc := ⟨.hbm, 199, rfl⟩
abbrev main_cst_40 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_cst_41 : Ref sig .tc := ⟨.hbm, 204, rfl⟩
abbrev main_v135 : Ref sig .tc := ⟨.hbm, 205, rfl⟩
abbrev main_c_42 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_43 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_c_44 : Ref sig .tc := ⟨.hbm, 222, rfl⟩
abbrev main_v150 : Ref sig .tc := ⟨.hbm, 223, rfl⟩
abbrev main_v151 : Ref sig .tc := ⟨.hbm, 224, rfl⟩
abbrev main_cst_45 : Ref sig .tc := ⟨.hbm, 225, rfl⟩
abbrev main_v152 : Ref sig .tc := ⟨.hbm, 226, rfl⟩
abbrev main_cst_46 : Ref sig .tc := ⟨.hbm, 227, rfl⟩
abbrev main_v153 : Ref sig .tc := ⟨.hbm, 228, rfl⟩
abbrev main_cst_47 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_48 : Ref sig .tc := ⟨.hbm, 233, rfl⟩
abbrev main_v157 : Ref sig .tc := ⟨.hbm, 234, rfl⟩
abbrev main_c_49 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_50 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_c_51 : Ref sig .tc := ⟨.hbm, 251, rfl⟩
abbrev main_v172 : Ref sig .tc := ⟨.hbm, 252, rfl⟩
abbrev main_v173 : Ref sig .tc := ⟨.hbm, 253, rfl⟩
abbrev main_cst_52 : Ref sig .tc := ⟨.hbm, 254, rfl⟩
abbrev main_v174 : Ref sig .tc := ⟨.hbm, 255, rfl⟩
abbrev main_cst_53 : Ref sig .tc := ⟨.hbm, 256, rfl⟩
abbrev main_v175 : Ref sig .tc := ⟨.hbm, 257, rfl⟩
abbrev main_cst_54 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_cst_55 : Ref sig .tc := ⟨.hbm, 262, rfl⟩
abbrev main_v179 : Ref sig .tc := ⟨.hbm, 263, rfl⟩
abbrev main_c_56 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_cst_57 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_c_58 : Ref sig .tc := ⟨.hbm, 280, rfl⟩
abbrev main_v194 : Ref sig .tc := ⟨.hbm, 281, rfl⟩
abbrev main_v195 : Ref sig .tc := ⟨.hbm, 282, rfl⟩
abbrev main_cst_59 : Ref sig .tc := ⟨.hbm, 283, rfl⟩
abbrev main_v196 : Ref sig .tc := ⟨.hbm, 284, rfl⟩
abbrev main_cst_60 : Ref sig .tc := ⟨.hbm, 285, rfl⟩
abbrev main_v197 : Ref sig .tc := ⟨.hbm, 286, rfl⟩
abbrev main_cst_61 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_cst_62 : Ref sig .tc := ⟨.hbm, 291, rfl⟩
abbrev main_v201 : Ref sig .tc := ⟨.hbm, 292, rfl⟩
abbrev main_c_63 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_cst_64 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_c_65 : Ref sig .tc := ⟨.hbm, 309, rfl⟩
abbrev main_v216 : Ref sig .tc := ⟨.hbm, 310, rfl⟩
abbrev main_v217 : Ref sig .tc := ⟨.hbm, 311, rfl⟩
abbrev main_cst_66 : Ref sig .tc := ⟨.hbm, 312, rfl⟩
abbrev main_v218 : Ref sig .tc := ⟨.hbm, 313, rfl⟩
abbrev main_cst_67 : Ref sig .tc := ⟨.hbm, 314, rfl⟩
abbrev main_v219 : Ref sig .tc := ⟨.hbm, 315, rfl⟩
abbrev main_cst_68 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_cst_69 : Ref sig .tc := ⟨.hbm, 320, rfl⟩
abbrev main_v223 : Ref sig .tc := ⟨.hbm, 321, rfl⟩
abbrev main_c_70 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_cst_71 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩

abbrev nD : Nat := 1
abbrev τ : Topo := Topo.v7x

variable {F : FTy → Type} [FloatOps F]
-- ==== Proof.Body.lean ====
/-
  What the kernel's body leaves behind at one grid point, as a function of the block it reads.

  `step x l acc` is the running column of 176 counts after a point that reads the logits block `x` and the labels block
  `l` over the column `acc`; `k0_pay2 acc` is the row of ten results that the last point writes from the column.  The
  three cases of the body (the first point, a point in the middle, the last point) leave `step x l zeros`, `step x l acc`
  and, in the output, `k0_pay2 (step x l acc)`.
-/
module

public import proofs.«01_k».proof.Defs
public import proofs.«01_k».proof.Proof.Gen.KernelIdeal.Value
public import Idealize.ShloMosaic.Lib.Pipeline.Value
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

/-- The maximum of each row of the block `x`, laid out in eight groups of 3125 rows. -/
def maxes (x : Vec Ideal S25000x32 .f32) : FVec Ideal S8x3125 .f32 :=
  k0_pay11 (k0_pay5 x) (k0_pay6 x) (k0_pay7 x) (k0_pay8 x) (k0_pay9 x) (k0_pay10 x)

/-- For each group and column, one where the row's entry is the row's maximum and zero elsewhere. -/
def marks (x : Vec Ideal S25000x32 .f32) : FVec Ideal S256x3125 .bf16 :=
  k0_pay12 (k0_pay4 x) (k0_pay5 x) (k0_pay6 x) (k0_pay7 x) (k0_pay8 x) (k0_pay9 x) (k0_pay10 x)

/-- The position of each of the 256 columns of the weight matrix. -/
def cols : IVec S8x256 32 := iota .tc S8x256 32 [1] iota_S8x256_d1_w32

/-- One where the row's label is the first column that holds the row's maximum, zero elsewhere. -/
def correct (x : Vec Ideal S25000x32 .f32) (l : Vec Ideal S1x8x3125 .i32) : FVec Ideal S8x3125 .bf16 :=
  k0_pay31 (k0_pay15 l)
    (k0_pay27 (k0_pay16 (marks x) cols k0_pay13) (k0_pay18 (marks x) cols k0_pay13) (k0_pay19 (marks x) cols k0_pay13))
    (k0_pay28 (k0_pay18 (marks x) cols k0_pay13)) k0_pay29 k0_pay30

/-- The column of counts after a point that reads `x` and `l`, over the column `acc` before it. -/
def step (x : Vec Ideal S25000x32 .f32) (l : Vec Ideal S1x8x3125 .i32) (acc : Vec Ideal S176x1 .f32) :
    Vec Ideal S176x1 .f32 :=
  k0_pay1 (maxes x) (correct x l) (k0_pay32 (maxes x)) (k0_pay33 (maxes x)) (k0_pay34 (maxes x)) (k0_pay35 (maxes x))
    (k0_pay36 (maxes x)) (k0_pay37 (maxes x)) (k0_pay38 (maxes x)) (k0_pay39 (maxes x)) (k0_pay40 (maxes x)) acc

/-- The start of a matrix. -/
theorem hz2 : (![0, 0] : Fin 2 → Nat) = fun _ => 0 := funext fun a => by fin_cases a <;> rfl
/-- The start of an array of three axes. -/
theorem hz3 : (![0, 0, 0] : Fin 3 → Nat) = fun _ => 0 := funext fun a => by fin_cases a <;> rfl

section
variable (c : Dev nD) (i : grid0.Coords)
  (a1 : Memref sig .tc .vmem S25000x32 .f32) (h1 : a1.IsWhole) (a2 : Memref sig .tc .vmem S1x8x3125 .i32) (h2 : a2.IsWhole)
  (a3 : Memref sig .tc .vmem S1x10 .f32) (h3 : a3.IsWhole) (a4 : Memref sig .tc .vmem S176x1 .f32) (h4 : a4.IsWhole)
  (x : Vec Ideal S25000x32 .f32) (l : Vec Ideal S1x8x3125 .i32) (acc : Vec Ideal S176x1 .f32)

/-- A point in the middle leaves the column `step x l acc`. -/
theorem column_middle (hc0 : ¬cond0_0 i) (hc1 : ¬cond0_1 i) :
    sout0_B_0 (F := Ideal) c i a1 h1 a2 h2 a3 h3 a4 h4 hc0 hc1 x l acc = step x l acc := by
  unfold sout0_B_0
  rw [View.read_writes_eq_canon _ _ _ (scover0_B_0 c i a1 h1 a2 h2 a3 h3 a4 h4 hc0 hc1 x l acc)]
  unfold kernelRun0_B
  dsimp only
  sl_unfold_words
  rw [View.canon_unit_zero hz2]
  simp only [View.readAt_eq_ld, h1.read_unread, h2.read_unread, h4.read_unread, View.ld_unit_zero (S := S25000x32) hz2,
    View.ld_unit_zero (S := S1x8x3125) hz3, View.ld_unit_zero (S := S176x1) hz2]
  rfl

/-- The first point leaves the column `step x l zeros`. -/
theorem column_first (hc0 : cond0_0 i) (hc1 : ¬cond0_1 i) :
    sout0_A_0 (F := Ideal) c i a1 h1 a2 h2 a3 h3 a4 h4 hc0 hc1 x l = step x l (k0_pay3 (F := Ideal)) := by
  unfold sout0_A_0
  rw [View.read_writes_eq_canon _ _ _ (scover0_A_0 c i a1 h1 a2 h2 a3 h3 a4 h4 hc0 hc1 x l)]
  unfold kernelRun0_A
  dsimp only
  sl_unfold_words
  rw [View.canon_cons_unit_zero (S := S176x1) hz2]
  simp only [View.readCov_unit_zero (S := S176x1) _ hz2, View.readAt_eq_ld, h1.read_unread, h2.read_unread,
    View.ld_unit_zero (S := S25000x32) hz2, View.ld_unit_zero (S := S1x8x3125) hz3]
  rfl

/-- The last point writes the row `k0_pay2 (step x l acc)`: the ten results of the finished column. -/
theorem row_last (hc0 : ¬cond0_0 i) (hc1 : cond0_1 i) :
    out0_C_2 (F := Ideal) c i a1 h1 a2 h2 a3 h3 a4 h4 hc0 hc1 x l acc = k0_pay2 (step x l acc) := by
  unfold out0_C_2
  rw [View.read_writes_eq_canon _ _ _ (cover0_C_2 c i a1 h1 a2 h2 a3 h3 a4 h4 hc0 hc1 x l acc)]
  unfold kernelRun0_C
  dsimp only
  sl_unfold_words
  rw [View.canon_unit_zero hz2]
  simp only [View.readCov_unit_zero (S := S176x1) _ hz2, View.readAt_eq_ld, h1.read_unread, h2.read_unread, h4.read_unread,
    View.ld_unit_zero (S := S25000x32) hz2, View.ld_unit_zero (S := S1x8x3125) hz3, View.ld_unit_zero (S := S176x1) hz2]
  rfl

end

/-- The column of counts after point `n`: the blocks of points `0` to `n` added one after the other to zeros. -/
def column (m : (ℓ : Loc nD τ sig) → Buf (Elt Ideal) ℓ) (c : Dev nD) : (n : ℕ) → n < cfg0.N → Vec Ideal S176x1 .f32
  | 0, h => step (iblk m c 0 ⟨0, h⟩) (iblk m c 1 ⟨0, h⟩) (k0_pay3 (F := Ideal))
  | n + 1, h => step (iblk m c 0 ⟨n + 1, h⟩) (iblk m c 1 ⟨n + 1, h⟩) (column m c n (Nat.lt_of_succ_lt h))

/-- Before the last point, the column the program carries is `column`. -/
theorem carried (m : (ℓ : Loc nD τ sig) → Buf (Elt Ideal) ℓ) (c : Dev nD) :
    ∀ (n : ℕ) (h : n < cfg0.N), n < 79 → (outsAt0 m c n h).2 = column m c n h
  | 0, h, _ => by
    rw [outsAt0_A m c ⟨0, h⟩ (Nat.zero_mod _) (by dsimp only; omega)]
    dsimp only
    rw [column_first]
    rfl
  | n + 1, h, hn => by
    rw [outsAt0_B m c ⟨n + 1, h⟩ (by dsimp only; omega) (by dsimp only; omega)]
    dsimp only
    rw [column_middle]
    show step _ _ (outsAt0 m c n _).2 = step _ _ (column m c n _)
    rw [carried m c n _ (by omega)]

/-- The result array after the run: the ten results of the column of the last point. -/
theorem result (m : (ℓ : Loc nD τ sig) → Buf (Elt Ideal) ℓ) (c : Dev nD) :
    Value.G2 m c = k0_pay2 (column m c 79 (lt_of_lt_of_eq (by decide) N_0.symm)) := by
  rw [Value.G2_last, ← Value.outsAt0_sweep m c 79 (lt_of_lt_of_eq (by decide) N_0.symm)]
  rw [outsAt0_C m c ⟨79, lt_of_lt_of_eq (by decide) N_0.symm⟩ (by decide) (by decide)]
  dsimp only
  rw [row_last]
  show k0_pay2 (step _ _ (outsAt0 m c 78 _).2) = k0_pay2 (step _ _ (column m c 78 _))
  rw [carried m c 78 _ (by decide)]

end Cert.KernelIdeal.Body

end
-- ==== Proof.Rows.lean ====
/-
  One row of 32 entries: its maximum, the first column that holds it, and how the sum of the powers of two of the columns
  that hold it tells that first column.
-/
module

public import Idealize.ShloMosaic.PureOps.Ideal
public import Idealize.ShloMosaic.Lib.IdealHost
public import Idealize.ShloMosaic.Lib.Pointwise.Index

@[expose] public section

noncomputable section

namespace Cert.Rows

/-- The largest entry of a row. -/
def top (x : Fin 32 → EReal) : EReal := Finset.univ.sup x

/-- Column `c` is the first of the row's columns that hold its largest entry. -/
def IsFirst (x : Fin 32 → EReal) (c : Fin 32) : Prop := x c = top x ∧ ∀ d < c, x d ≠ top x

/-- The label `l` names the first column that holds the row's largest entry. -/
def Hit (x : Fin 32 → EReal) (l : BitVec 32) : Prop := ∃ c : Fin 32, IsFirst x c ∧ l = BitVec.ofNat 32 c.val

/-- Every row has a first column that holds its largest entry. -/
theorem exists_first (x : Fin 32 → EReal) : ∃ c, IsFirst x c := by
  classical
  obtain ⟨c, -, hc⟩ := Finset.exists_mem_eq_sup Finset.univ ⟨0, Finset.mem_univ _⟩ x
  have hne : (Finset.univ.filter fun d => x d = top x).Nonempty :=
    ⟨c, Finset.mem_filter.2 ⟨Finset.mem_univ _, hc.symm⟩⟩
  refine ⟨_, (Finset.mem_filter.1 (Finset.min'_mem _ hne)).2, fun d hd he => ?_⟩
  exact absurd (Finset.min'_le _ d (Finset.mem_filter.2 ⟨Finset.mem_univ _, he⟩)) (not_le.2 hd)

/-- A row has only one such column. -/
theorem first_unique {x : Fin 32 → EReal} {c d : Fin 32} (hc : IsFirst x c) (hd : IsFirst x d) : c = d := by
  rcases lt_trichotomy c d with h | h | h
  · exact absurd hc.1 (hd.2 c h)
  · exact h
  · exact absurd hd.1 (hc.2 d h)

/-- A label hits exactly when it is the number of the first column. -/
theorem hit_iff {x : Fin 32 → EReal} {c : Fin 32} (hc : IsFirst x c) (l : BitVec 32) :
    Hit x l ↔ l = BitVec.ofNat 32 c.val :=
  ⟨fun ⟨_, hd, hl⟩ => first_unique hc hd ▸ hl, fun h => ⟨c, hc, h⟩⟩

/-- The lower bound of bin `j`: `j / 10`. -/
def bound (j : ℕ) : EReal := ((j / 10 : ℝ) : EReal)

/-- What a row with label `l` adds to count `j`: for `j` below 11 one if the row's largest entry is above bound `j`, for
the other eleven one if it is above bound `j - 11` and the label hits. -/
def tally (j : ℕ) (x : Fin 32 → EReal) (l : BitVec 32) : ℕ := by
  classical
  exact if j < 11 then (if bound j < top x then 1 else 0) else (if bound (j - 11) < top x ∧ Hit x l then 1 else 0)

/-- The total of a count over the two million rows, of a table of rows and a list of labels. -/
def total (j : ℕ) (x : Fin 2000000 → Fin 32 → EReal) (l : Fin 2000000 → BitVec 32) : ℕ :=
  ∑ n, tally j (x n) (l n)

/-- Row `n` of a table of logits, its 32 entries less the small constant of the programs. -/
def rows (X : (⟨2, ![2000000, 32]⟩ : Idealize.ShloMosaic.Shape).Idx → EReal) (n : Fin 2000000) : Fin 32 → EReal :=
  fun c => X (Idealize.ShloMosaic.ix2 n c) - Idealize.ShloMosaic.Ideal.ofBits .f32 869711765#32

/-- The label of row `n`. -/
def labels (L : (⟨1, ![2000000]⟩ : Idealize.ShloMosaic.Shape).Idx → BitVec 32) (n : Fin 2000000) : BitVec 32 :=
  L (Idealize.ShloMosaic.ix1 n)

/-- Result `i` of four totals: the rows of bin `i` that hit over the rows of bin `i`, and zero where the bin is empty. -/
def ratio (i : ℕ) (x : Fin 2000000 → Fin 32 → EReal) (l : Fin 2000000 → BitVec 32) : EReal :=
  if 0 < (((total i x l : ℕ) : ℝ) : EReal) - (((total (1 + i) x l : ℕ) : ℝ) : EReal) then
    Idealize.ShloMosaic.Ideal.div
      ((((total (11 + i) x l : ℕ) : ℝ) : EReal) - (((total (12 + i) x l : ℕ) : ℝ) : EReal))
      (max ((((total i x l : ℕ) : ℝ) : EReal) - (((total (1 + i) x l : ℕ) : ℝ) : EReal)) 1)
  else 0

/-- A sum over eight groups of sums over 80 blocks of 3125 rows is the sum over all rows. -/
theorem sum_blocks (f : Fin 2000000 → ℕ) :
    ∑ k : Fin 8, ∑ t : Fin 80, ∑ r : Fin 3125, f ⟨t.val * 25000 + (k.val * 3125 + r.val), by omega⟩ = ∑ n, f n := by
  let e : Fin 80 × Fin 8 × Fin 3125 ≃ Fin 2000000 :=
    { toFun := fun p => ⟨p.1.val * 25000 + (p.2.1.val * 3125 + p.2.2.val), by omega⟩
      invFun := fun n => (⟨n.val / 25000, by omega⟩, ⟨n.val % 25000 / 3125, by omega⟩, ⟨n.val % 3125, by omega⟩)
      left_inv := fun p => by
        obtain ⟨t, k, r⟩ := p
        simp only [Prod.mk.injEq, Fin.ext_iff]
        omega
      right_inv := fun n => by
        simp only [Fin.ext_iff]
        omega }
  rw [Finset.sum_comm, ← Equiv.sum_comp e, Fintype.sum_prod_type]
  refine Finset.sum_congr rfl fun t _ => ?_
  rw [Fintype.sum_prod_type]
  rfl

/-- A sum of natural numbers, read as an extended real, is the sum of the terms so read. -/
theorem coe_sum {ι : Type*} (s : Finset ι) (f : ι → ℕ) :
    (((∑ i ∈ s, f i : ℕ) : ℝ) : EReal) = ∑ i ∈ s, ((f i : ℝ) : EReal) := by
  classical
  induction s using Finset.induction_on with
  | empty => simp
  | insert a s ha ih => rw [Finset.sum_insert ha, Finset.sum_insert ha, ← ih]; push_cast; rfl

/-! ### The sum of powers -/

/-- The powers of two of the columns that hold the largest entry, column `c` counting `2 ^ (31 - c)`, summed up. -/
def code (x : Fin 32 → EReal) : ℕ := by
  classical exact ∑ c : Fin 32, if x c = top x then 2 ^ (31 - c.val) else 0

/-- The powers from column `c` on add up to less than twice the first of them. -/
theorem tail_lt : ∀ c : Fin 32, (∑ d : Fin 32, if c ≤ d then 2 ^ (31 - d.val) else 0) < 2 ^ (32 - c.val) := by
  decide +kernel

/-- The sum lies between the power of the first column and twice that power. -/
theorem code_bounds {x : Fin 32 → EReal} {c : Fin 32} (hc : IsFirst x c) :
    2 ^ (31 - c.val) ≤ code x ∧ code x < 2 ^ (32 - c.val) := by
  classical
  unfold code
  constructor
  · calc 2 ^ (31 - c.val) = if x c = top x then 2 ^ (31 - c.val) else 0 := (if_pos hc.1).symm
      _ ≤ _ := Finset.single_le_sum (f := fun d : Fin 32 => if x d = top x then 2 ^ (31 - d.val) else 0)
        (fun _ _ => Nat.zero_le _) (Finset.mem_univ c)
  · refine lt_of_le_of_lt (Finset.sum_le_sum fun d _ => ?_) (tail_lt c)
    by_cases hd : c ≤ d
    · rw [if_pos hd]; split_ifs <;> simp
    · rw [if_neg hd, if_neg (hc.2 d (not_le.1 hd))]

/-! ### The exponent by comparisons -/

/-- `y` divided by `2 ^ b` if it is at least that, else `y`. -/
def scaled (b : ℕ) (y : EReal) : EReal := by
  classical exact if (((2 : ℝ) ^ b : ℝ) : EReal) ≤ y then y * ((((2 : ℝ) ^ b)⁻¹ : ℝ) : EReal) else y

/-- The word `b` if `y` is at least `2 ^ b`, else zero. -/
def part (b : ℕ) (y : EReal) : BitVec 32 := by
  classical exact if (((2 : ℝ) ^ b : ℝ) : EReal) ≤ y then BitVec.ofNat 32 b else 0#32

/-- The exponent field that the comparisons with `2 ^ 32`, `2 ^ 16`, … , `2 ^ 1` find. -/
def field (y : EReal) : BitVec 32 := by
  classical
  exact (if 1 ≤ y then 127#32 else 0#32) + part 32 y + part 16 (scaled 32 y) + part 8 (scaled 16 (scaled 32 y))
    + part 4 (scaled 8 (scaled 16 (scaled 32 y))) + part 2 (scaled 4 (scaled 8 (scaled 16 (scaled 32 y))))
    + part 1 (scaled 2 (scaled 4 (scaled 8 (scaled 16 (scaled 32 y)))))

/-- `y` is a number from `2 ^ e` up to but not including `2 ^ (e + 1)`. -/
def Between (e : ℕ) (y : EReal) : Prop := ∃ s : ℝ, y = s ∧ (2 : ℝ) ^ e ≤ s ∧ s < 2 ^ (e + 1)

/-- Such a number is at least `2 ^ b` exactly when `b` is at most its exponent. -/
theorem between_le {e b : ℕ} {y : EReal} (h : Between e y) : (((2 : ℝ) ^ b : ℝ) : EReal) ≤ y ↔ b ≤ e := by
  obtain ⟨s, rfl, h1, h2⟩ := h
  rw [EReal.coe_le_coe_iff]
  constructor
  · intro hb
    by_contra hlt
    have : (2 : ℝ) ^ (e + 1) ≤ 2 ^ b := pow_le_pow_right₀ (by norm_num) (by omega)
    linarith
  · intro hb
    exact le_trans (pow_le_pow_right₀ (by norm_num) hb) h1

/-- Scaling by `2 ^ b` takes `b` off the exponent if it holds `b`. -/
theorem between_scaled {e : ℕ} {y : EReal} (b : ℕ) (h : Between e y) :
    Between (if b ≤ e then e - b else e) (scaled b y) := by
  classical
  unfold scaled
  by_cases hb : b ≤ e
  · rw [if_pos hb, if_pos ((between_le h).2 hb)]
    obtain ⟨s, rfl, h1, h2⟩ := h
    have hp : (0 : ℝ) < 2 ^ b := by positivity
    refine ⟨s * (2 ^ b)⁻¹, by rw [EReal.coe_mul], ?_, ?_⟩
    · rw [← div_eq_mul_inv, le_div_iff₀ hp, ← pow_add, Nat.sub_add_cancel hb]
      exact h1
    · rw [← div_eq_mul_inv, div_lt_iff₀ hp, ← pow_add]
      rwa [show e - b + 1 + b = e + 1 by omega]
  · rw [if_neg hb, if_neg (fun hle => hb ((between_le h).1 hle))]
    exact h

/-- The comparison with `2 ^ b` tells whether `b` is at most the exponent. -/
theorem part_of_between {e : ℕ} {y : EReal} (b : ℕ) (h : Between e y) :
    part b y = if b ≤ e then BitVec.ofNat 32 b else 0#32 := by
  classical
  unfold part
  simp only [between_le h]

/-- For a number from `2 ^ e` up to `2 ^ (e + 1)`, with `e` below 32, the comparisons find `127 + e`. -/
theorem field_of_between {y : EReal} (e : Fin 32) (h : Between e.val y) : field y = BitVec.ofNat 32 (127 + e.val) := by
  classical
  have h1 : (1 : EReal) ≤ y := by
    have := (between_le (b := 0) h).2 (Nat.zero_le _)
    simpa using this
  have g1 := between_scaled 32 h
  have g2 := between_scaled 16 g1
  have g3 := between_scaled 8 g2
  have g4 := between_scaled 4 g3
  have g5 := between_scaled 2 g4
  unfold field
  rw [if_pos h1, part_of_between 32 h, part_of_between 16 g1, part_of_between 8 g2, part_of_between 4 g3,
    part_of_between 2 g4, part_of_between 1 g5]
  clear g1 g2 g3 g4 g5 h1 h
  revert e
  decide +kernel

/-- The exponent field of the sum of powers is 158 less the number of the first column. -/
theorem field_code {x : Fin 32 → EReal} {c : Fin 32} (hc : IsFirst x c) :
    field ((code x : ℝ) : EReal) = 158#32 - BitVec.ofNat 32 c.val := by
  obtain ⟨h1, h2⟩ := code_bounds hc
  have hb : Between (31 - c.val) ((code x : ℝ) : EReal) := by
    refine ⟨_, rfl, by exact_mod_cast h1, ?_⟩
    rw [show 31 - c.val + 1 = 32 - c.val by omega]
    exact_mod_cast h2
  rw [field_of_between ⟨31 - c.val, by omega⟩ hb]
  have all : ∀ c : Fin 32, BitVec.ofNat 32 (127 + (31 - c.val)) = 158#32 - BitVec.ofNat 32 c.val := by decide +kernel
  exact all c

/-- The exponent field of the sum of powers is 158 less the label exactly when the label hits. -/
theorem field_eq_iff (x : Fin 32 → EReal) (l : BitVec 32) :
    field ((code x : ℝ) : EReal) = 158#32 - l ↔ Hit x l := by
  obtain ⟨c, hc⟩ := exists_first x
  rw [field_code hc, hit_iff hc]
  constructor
  · intro h
    exact ((BitVec.sub_right_inj _).1 h).symm
  · rintro rfl; rfl

end Cert.Rows

end
-- ==== Proof.Words.lean ====
/-
  Powers of two, minus infinity, ten and two million as 32-bit float words.
-/
module

public import Idealize.ShloMosaic.PureOps.Ideal
public import Idealize.ShloMosaic.Lib.IdealHost

@[expose] public section

noncomputable section

namespace Cert.Words

open Idealize.ShloMosaic

/-- The fields of the word whose exponent field is `E` and whose other bits are zero. -/
theorem fields : ∀ E : Fin 256, (BitVec.ofNat 32 (E.val * 2 ^ 23)).extractLsb' 31 1 = 0#1
    ∧ ((BitVec.ofNat 32 (E.val * 2 ^ 23)).extractLsb' 23 8).toNat = E.val
    ∧ ((BitVec.ofNat 32 (E.val * 2 ^ 23)).extractLsb' 0 23).toNat = 0 := by
  decide +kernel

/-- The word with exponent field `E`, neither 0 nor 255, and no other bit set is `2 ^ (E - 127)`. -/
theorem power (E : ℕ) (h0 : E ≠ 0) (h1 : E < 255) :
    Ideal.ofBits .f32 (BitVec.ofNat 32 (E * 2 ^ 23)) = (((2 : ℝ) ^ ((E : ℤ) - 127) : ℝ) : EReal) := by
  obtain ⟨hs, he, hf⟩ := fields ⟨E, by omega⟩
  simp only at hs he hf
  show Ideal.ieee 8 23 _ = _
  unfold Ideal.ieee
  simp only [hs, he, hf, show (8 + 23) = 31 from rfl]
  rw [if_neg (by norm_num; omega), if_neg h0]
  congr 1
  have : (8388608 : ℝ) = (2 : ℝ) ^ (23 : ℤ) := by norm_num
  simp only [show ((0#1 : BitVec 1) == 1#1) = false from rfl]
  push_cast
  norm_num only [Nat.cast_ofNat]
  rw [this, ← zpow_add₀ (by norm_num)]
  congr 1
  norm_num

/-- The word with exponent field `127 + b` is `2 ^ b`. -/
theorem power_up (b : ℕ) (h : b < 128) :
    Ideal.ofBits .f32 (BitVec.ofNat 32 ((127 + b) * 2 ^ 23)) = (((2 : ℝ) ^ b : ℝ) : EReal) := by
  rw [power _ (by omega) (by omega), ← zpow_natCast]
  congr 2
  push_cast
  ring

/-- The word with exponent field `127 - b` is the inverse of `2 ^ b`. -/
theorem power_down (b : ℕ) (h : b < 127) :
    Ideal.ofBits .f32 (BitVec.ofNat 32 ((127 - b) * 2 ^ 23)) = (((2 : ℝ) ^ b)⁻¹ : ℝ) := by
  rw [power _ (by omega) (by omega), ← zpow_natCast, ← zpow_neg]
  congr 2
  push_cast [show b ≤ 127 by omega]
  ring

/-- The word with all exponent bits and the sign bit set and no other is minus infinity. -/
theorem minus_infinity : Ideal.ofBits .f32 0xFF800000#32 = ⊥ := by
  show Ideal.ieee 8 23 0xFF800000#32 = _
  unfold Ideal.ieee
  rw [if_pos (by decide), if_pos (by decide), if_pos (by decide)]

/-- The word of the number ten. -/
theorem ten : Ideal.ofBits .f32 0x41200000#32 = ((10 : ℝ) : EReal) := by
  simp [Ideal.ofBits, Ideal.ieee, -EReal.coe_mul]
  norm_num

/-- The word of the number two million. -/
theorem two_million : Ideal.ofBits .f32 0x49F42400#32 = ((2000000 : ℝ) : EReal) := by
  simp [Ideal.ofBits, Ideal.ieee, -EReal.coe_mul]
  norm_num

end Cert.Words

end
-- ==== Proof.Block.lean ====
/-
  The kernel's body at a place: the maxima of the rows of a block, the marks of the columns that hold them, the weighted
  sum of the marks.
-/
module

public import proofs.«01_k».proof.Proof.Body
public import proofs.«01_k».proof.Proof.Rows
public import proofs.«01_k».proof.Proof.Words
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem Cert.Rows

/-- Row `r` of group `k` of the block, its 32 entries less the small constant of the program. -/
def row (x : Vec Ideal S25000x32 .f32) (k : Fin 8) (r : Fin 3125) : Fin 32 → EReal :=
  fun c => x (ix2 ⟨k.val * 3125 + r.val, by omega⟩ c) - Ideal.ofBits .f32 869711765#32

/-- The shifted block at group `k`, column `c`, row `r`. -/
theorem shifted_at (x : Vec Ideal S25000x32 .f32) (k : Fin 8) (c : Fin 32) (r : Fin 3125) :
    k0_pay4 x (ix3 k c r) = row x k r c := by
  pointwise [k0_pay4]
  fin_cases k <;> simp [row]

/-- The largest of the four entries whose columns leave the same rest modulo eight. -/
theorem quarter_at (x : Vec Ideal S25000x32 .f32) (k : Fin 8) (c : Fin 8) (r : Fin 3125) :
    k0_pay5 x (ix3 k c r) = max (max (row x k r ⟨c.val, by omega⟩) (row x k r ⟨8 + c.val, by omega⟩))
      (max (row x k r ⟨16 + c.val, by omega⟩) (row x k r ⟨24 + c.val, by omega⟩)) := by
  pointwise [k0_pay5]
  simp only [shifted_at]

/-- The largest of eight maxima, each of the four columns of one rest modulo eight, is the largest entry of the row. -/
theorem top_quarters (y : Fin 32 → EReal) :
    (Finset.univ : Finset (Fin 8)).fold max ⊥ (fun c => max (max (y ⟨c.val, by omega⟩) (y ⟨8 + c.val, by omega⟩))
      (max (y ⟨16 + c.val, by omega⟩) (y ⟨24 + c.val, by omega⟩))) = top y := by
  apply le_antisymm
  · rw [Finset.fold_max_le]
    refine ⟨bot_le, fun c _ => ?_⟩
    simp only [max_le_iff]
    exact ⟨⟨Finset.le_sup (Finset.mem_univ _), Finset.le_sup (Finset.mem_univ _)⟩,
      Finset.le_sup (Finset.mem_univ _), Finset.le_sup (Finset.mem_univ _)⟩
  · refine Finset.sup_le fun d _ => ?_
    rw [Finset.le_fold_max]
    right
    refine ⟨⟨d.val % 8, by omega⟩, Finset.mem_univ _, ?_⟩
    have hd : d.val = d.val % 8 ∨ d.val = 8 + d.val % 8 ∨ d.val = 16 + d.val % 8 ∨ d.val = 24 + d.val % 8 := by omega
    simp only [le_max_iff]
    rcases hd with h | h | h | h
    · exact .inl (.inl (le_of_eq (congrArg y (Fin.ext h))))
    · exact .inl (.inr (le_of_eq (congrArg y (Fin.ext h))))
    · exact .inr (.inl (le_of_eq (congrArg y (Fin.ext h))))
    · exact .inr (.inr (le_of_eq (congrArg y (Fin.ext h))))

/-- The maxima: at group `k`, row `r` the largest entry of that row. -/
theorem maxes_at (x : Vec Ideal S25000x32 .f32) (k : Fin 8) (r : Fin 3125) : maxes x (ix2 k r) = top (row x k r) := by
  rw [← top_quarters, ← Words.minus_infinity]
  simp only [← quarter_at]
  pointwise [maxes, k0_pay6, k0_pay7, k0_pay8, k0_pay9, k0_pay10, k0_pay11]
  fin_cases k <;> rfl

/-- A bit read as an integer and then as a number is one or zero. -/
theorem number_of_bit (p : Prop) [Decidable p] :
    (FloatOps.sitofp (F := Ideal) FTy.f32 (BitVec.setWidth 32 (BitVec.ofBool (decide p))) : EReal) = if p then 1 else 0 := by
  show ((((BitVec.setWidth 32 (BitVec.ofBool (decide p))).toInt : ℤ) : ℝ) : EReal) = _
  by_cases h : p <;> simp [h]

/-- The marks: at group `k`, column `c`, row `r` one if that entry is the row's largest, else zero. -/
theorem marks_at (x : Vec Ideal S25000x32 .f32) (k : Fin 8) (c : Fin 32) (r : Fin 3125) :
    marks x (ix2 ⟨k.val * 32 + c.val, by omega⟩ r) = if row x k r c = top (row x k r) then 1 else 0 := by
  rw [← maxes_at, ← shifted_at]
  pointwise [marks, k0_pay12]
  exact number_of_bit _

/-- A sum over 256 places whose terms vanish outside the 32 places of group `k` is the sum over those 32. -/
theorem sum_group (k : Fin 8) (f : Fin 256 → EReal) (h : ∀ x : Fin 256, x.val / 32 ≠ k.val → f x = 0) :
    ∑ x, f x = ∑ c : Fin 32, f ⟨k.val * 32 + c.val, by omega⟩ := by
  symm
  refine Fintype.sum_of_injective (fun c : Fin 32 => (⟨k.val * 32 + c.val, by omega⟩ : Fin 256)) ?_ _ _ ?_ fun _ => rfl
  · intro a b hab
    have := Fin.mk.inj hab
    exact Fin.ext (by omega)
  · intro x hx
    refine h x fun hk => hx ⟨⟨x.val % 32, by omega⟩, Fin.ext ?_⟩
    show k.val * 32 + x.val % 32 = x.val
    omega

/-- The weighted sum of the marks: at group `k`, row `r` the sum of the powers of two of the columns that hold the row's
largest entry. -/
theorem sum_at (x : Vec Ideal S25000x32 .f32) (k : Fin 8) (r : Fin 3125) :
    k0_pay14 (marks x) cols k0_pay13 (ix2 k r) = ((code (row x k r) : ℝ) : EReal) := by
  classical
  generalize hM : marks x = M
  pointwise [k0_pay14, k0_pay13, cols]
  refine (Finset.sum_congr rfl fun i _ => congrArg (fun w => Ideal.ofBits .f32 w * M (ix2 i r)) (?_ : _ =
    if i.val / 32 = k.val then BitVec.ofNat 32 ((127 + (31 - i.val % 32)) * 2 ^ 23) else 0#32)).trans ?_
  · clear hM r
    revert i k
    decide +kernel
  rw [sum_group k _ fun i hi => by rw [if_neg hi, Ideal.ofBits_zero_f32, zero_mul], code, coe_sum]
  refine Finset.sum_congr rfl fun c _ => ?_
  rw [← hM, marks_at, if_pos (by show (k.val * 32 + c.val) / 32 = k.val; omega)]
  rw [show (k.val * 32 + c.val) % 32 = c.val by omega, Words.power_up _ (by omega)]
  by_cases h : row x k r c = top (row x k r)
  · rw [if_pos h, if_pos h, mul_one]; push_cast; rfl
  · rw [if_neg h, if_neg h, mul_zero]; simp

/-! ### The exponent and the comparison with the label -/

section
variable (v : FVec Ideal S8x3125 .f32) (k : Fin 8) (r : Fin 3125)

/-- The weighted sum after the comparison with `2 ^ 32`. -/
theorem scaled32_at (M : FVec Ideal S256x3125 .bf16) :
    k0_pay18 M cols k0_pay13 (ix2 k r) = scaled 32 (k0_pay14 M cols k0_pay13 (ix2 k r)) := by
  pointwise [k0_pay18, k0_pay17]
  unfold scaled
  rw [← Words.power_up 32 (by omega), ← Words.power_down 32 (by omega)]
  congr 1

/-- The second scaling, entry by entry. -/
theorem scaled16_at : k0_pay21 v (ix2 k r) = scaled 16 (v (ix2 k r)) := by
  pointwise [k0_pay21, k0_pay20]
  unfold scaled
  rw [← Words.power_up 16 (by omega), ← Words.power_down 16 (by omega)]
  congr 1

/-- The third scaling, entry by entry. -/
theorem scaled8_at : k0_pay23 v (ix2 k r) = scaled 8 (scaled 16 (v (ix2 k r))) := by
  rw [← scaled16_at]
  pointwise [k0_pay23, k0_pay22]
  unfold scaled
  rw [← Words.power_up 8 (by omega), ← Words.power_down 8 (by omega)]
  congr 1

/-- The fourth scaling, entry by entry. -/
theorem scaled4_at : k0_pay25 v (ix2 k r) = scaled 4 (scaled 8 (scaled 16 (v (ix2 k r)))) := by
  rw [← scaled8_at]
  pointwise [k0_pay25, k0_pay24]
  unfold scaled
  rw [← Words.power_up 4 (by omega), ← Words.power_down 4 (by omega)]
  congr 1

/-- A choice between one word and zero by a comparison with a power of two. -/
theorem part_eq (b : ℕ) (hb : b < 128) (y : EReal) (w : BitVec 32) (hw : w = BitVec.ofNat 32 ((127 + b) * 2 ^ 23))
    [Decidable (Ideal.ofBits .f32 w ≤ y)] :
    (if Ideal.ofBits .f32 w ≤ y then BitVec.ofNat 32 b else 0#32) = part b y := by
  unfold part
  subst hw
  rw [← Words.power_up b hb]
  congr 1

/-- The bit of the comparison with two, read as a choice between the words one and zero. -/
theorem part1_at : Scalar.select (k0_pay28 v (ix2 k r)) 1#32 0#32
    = part 1 (scaled 2 (scaled 4 (scaled 8 (scaled 16 (v (ix2 k r)))))) := by
  rw [← scaled4_at]
  have h2 : k0_pay28 v (ix2 k r) = BitVec.ofBool (decide (Ideal.ofBits .f32 1073741824#32
      ≤ scaled 2 (k0_pay25 v (ix2 k r)))) := by
    pointwise [k0_pay28, k0_pay26]
    unfold scaled
    rw [← Words.power_up 2 (by omega), ← Words.power_down 2 (by omega)]
    congr 3
  rw [h2, ← part_eq 1 (by omega) _ 1073741824#32 (by decide)]
  by_cases h : Ideal.ofBits .f32 1073741824#32 ≤ scaled 2 (k0_pay25 v (ix2 k r)) <;> simp [h, Scalar.select]

/-- The sum of the integers chosen by the comparisons, at a place: the exponent field of the weighted sum there. -/
theorem field_at (M : FVec Ideal S256x3125 .bf16) :
    IntOp.addi (k0_pay27 (k0_pay16 M cols k0_pay13) (k0_pay18 M cols k0_pay13) (k0_pay19 M cols k0_pay13) (ix2 k r))
      (Scalar.select (k0_pay28 (k0_pay18 M cols k0_pay13) (ix2 k r)) 1#32 0#32)
    = field (k0_pay14 M cols k0_pay13 (ix2 k r)) := by
  rw [part1_at]
  pointwise [k0_pay27, k0_pay26, k0_pay24, k0_pay22, k0_pay20, k0_pay19, k0_pay17, k0_pay16]
  simp only [scaled4_at, scaled8_at, scaled16_at, scaled32_at]
  unfold field
  refine congrArg₂ (· + ·) (congrArg₂ (· + ·) (congrArg₂ (· + ·) (congrArg₂ (· + ·) (congrArg₂ (· + ·)
    (congrArg₂ (· + ·) ?_ ?_) ?_) ?_) ?_) ?_) rfl
  · rw [← Ideal.ofBits_one_f32]
  · exact part_eq 32 (by omega) _ _ (by decide)
  · exact part_eq 16 (by omega) _ _ (by decide)
  · exact part_eq 8 (by omega) _ _ (by decide)
  · exact part_eq 4 (by omega) _ _ (by decide)
  · exact part_eq 2 (by omega) _ _ (by decide)

/-- The indicator of a hit: at group `k`, row `r` one if the label names the first column that holds the row's largest
entry, else zero. -/
theorem correct_at (x : Vec Ideal S25000x32 .f32) (l : Vec Ideal S1x8x3125 .i32) (k : Fin 8) (r : Fin 3125)
    [Decidable (Hit (row x k r) (l (ix3 0 k r)))] :
    correct x l (ix2 k r) = if Hit (row x k r) (l (ix3 0 k r)) then 1 else 0 := by
  have he := field_at k r (marks x)
  rw [sum_at] at he
  unfold correct
  pointwise [k0_pay31, k0_pay29, k0_pay30, k0_pay15]
  rw [he]
  refine (number_of_bit _).trans ?_
  by_cases h : Hit (row x k r) (l (ix3 0 k r))
  · rw [if_pos h]; exact if_pos ((field_eq_iff _ _).2 h)
  · rw [if_neg h]; exact if_neg fun hf => h ((field_eq_iff _ _).1 hf)

end

end Cert.KernelIdeal.Body

end
-- ==== Proof.Step.lean ====
/-
  One block's share of the column of counts: eleven counts of rows whose maximum is above a bound, and eleven of those of
  them whose label hits, each kept for eight groups of rows.
-/
module

public import proofs.«01_k».proof.Proof.Block

@[expose] public section

set_option maxRecDepth 16384

noncomputable section

namespace Cert.KernelIdeal.Body

open Cert.KernelIdeal Cert.KernelIdeal.Gen Idealize.ShloMosaic Idealize.ShloMosaic.TcCoe Idealize.SL.Sem Cert.Rows

/-- Eleven arrays stacked along a new first axis. -/
def stack (f : Fin 11 → FVec Ideal S8x3125 .bf16) : FVec Ideal S11x8x3125 .bf16 :=
  concatenate S11x8x3125 0 [⟨S1x8x3125, shapeCast S1x8x3125 (f 0) shapeCasts_S8x3125_S1x8x3125⟩,
    ⟨S1x8x3125, shapeCast S1x8x3125 (f 1) shapeCasts_S8x3125_S1x8x3125⟩,
    ⟨S1x8x3125, shapeCast S1x8x3125 (f 2) shapeCasts_S8x3125_S1x8x3125⟩,
    ⟨S1x8x3125, shapeCast S1x8x3125 (f 3) shapeCasts_S8x3125_S1x8x3125⟩,
    ⟨S1x8x3125, shapeCast S1x8x3125 (f 4) shapeCasts_S8x3125_S1x8x3125⟩,
    ⟨S1x8x3125, shapeCast S1x8x3125 (f 5) shapeCasts_S8x3125_S1x8x3125⟩,
    ⟨S1x8x3125, shapeCast S1x8x3125 (f 6) shapeCasts_S8x3125_S1x8x3125⟩,
    ⟨S1x8x3125, shapeCast S1x8x3125 (f 7) shapeCasts_S8x3125_S1x8x3125⟩,
    ⟨S1x8x3125, shapeCast S1x8x3125 (f 8) shapeCasts_S8x3125_S1x8x3125⟩,
    ⟨S1x8x3125, shapeCast S1x8x3125 (f 9) shapeCasts_S8x3125_S1x8x3125⟩,
    ⟨S1x8x3125, shapeCast S1x8x3125 (f 10) shapeCasts_S8x3125_S1x8x3125⟩]
    concatenates_S1x8x3125_S1x8x3125_S1x8x3125_S1x8x3125_S1x8x3125_S1x8x3125_S1x8x3125_S1x8x3125_S1x8x3125_S1x8x3125_S1x8x3125_S11x8x3125_d0

/-- The stack at a place. -/
theorem stack_at (f : Fin 11 → FVec Ideal S8x3125 .bf16) (j : Fin 11) (k : Fin 8) (r : Fin 3125) :
    stack f (ix3 j k r) = f j (ix2 k r) := by
  pointwise [stack]
  fin_cases j <;> rfl

/-- The stack over the stack times one more array, with the first two axes run together. -/
def table (s : FVec Ideal S11x8x3125 .bf16) (c : FVec Ideal S8x3125 .bf16) : FVec Ideal S176x3125 .bf16 :=
  shapeCast S176x3125 (concatenate S22x8x3125 0 [⟨S11x8x3125, s⟩, ⟨S11x8x3125, mulf s (broadcastTo S11x8x3125
    (shapeCast S1x8x3125 c shapeCasts_S8x3125_S1x8x3125) broadcasts_S1x8x3125_S11x8x3125)⟩]
    concatenates_S11x8x3125_S11x8x3125_S22x8x3125_d0) shapeCasts_S22x8x3125_S176x3125

/-- The table at a place. -/
theorem table_at (s : FVec Ideal S11x8x3125 .bf16) (c : FVec Ideal S8x3125 .bf16) (j : Fin 22) (k : Fin 8) (r : Fin 3125) :
    table s c (ix2 ⟨j.val * 8 + k.val, by omega⟩ r) = if h : j.val < 11 then s (ix3 ⟨j.val, h⟩ k r)
      else s (ix3 ⟨j.val - 11, by omega⟩ k r) * c (ix2 k r) := by
  pointwise [table]

/-- The eleven indicators of a row's largest entry being above a bound. -/
def levels (v : FVec Ideal S8x3125 .f32) : Fin 11 → FVec Ideal S8x3125 .bf16 :=
  ![k0_pay32 v, k0_pay33 v, k0_pay34 v, k0_pay35 v, k0_pay36 v, k0_pay37 v, k0_pay38 v, k0_pay39 v,
    truncf .bf16 (sitofp .f32 (extui 32 (k0_pay40 v) natLt_1_32)) bitsLt_bf16_f32,
    truncf .bf16 (sitofp .f32 (extui 32 (cmpf .ogt v (broadcast S8x3125 (Named.named κ "tenth9" 0x3F666666#32)))
      natLt_1_32)) bitsLt_bf16_f32,
    truncf .bf16 (sitofp .f32 (extui 32 (cmpf .ogt v (broadcast S8x3125 (Scalar.ofBits .f32 0x3F800000#32)))
      natLt_1_32)) bitsLt_bf16_f32]

/-- An indicator at a place, for a bound of the value `b`. -/
theorem indicator (b : EReal) (j : ℕ) (hb : b = bound j) (y : EReal) [Decidable (b < y)] [Decidable (bound j < y)] :
    (FloatOps.sitofp (F := Ideal) FTy.f32 (BitVec.setWidth 32 (BitVec.ofBool (decide (b < y)))) : EReal)
      = if bound j < y then 1 else 0 := by
  subst hb
  rw [number_of_bit]
  congr 1

/-- The word of one half is bound 5. -/
theorem half_eq : Ideal.ofBits .f32 0x3F000000#32 = bound 5 := by
  rw [show (0x3F000000#32) = BitVec.ofNat 32 ((127 - 1) * 2 ^ 23) by decide, Words.power_down 1 (by omega)]
  unfold bound
  norm_num

/-- A named tenth is its bound. -/
theorem named_at {n : String} {w : BitVec 32} {b : ℝ} {j : ℕ} (h : κ n = some ((b : ℝ) : EReal)) (hj : b = j / 10) :
    (Named.named (F := Ideal) κ n (φ := .f32) w : EReal) = bound j :=
  (IdealRules.named_const.ideal_named_scalar _ _ _ _ h).trans (by rw [hj]; rfl)

/-- The indicators at a place. -/
theorem levels_at (v : FVec Ideal S8x3125 .f32) (j : Fin 11) (k : Fin 8) (r : Fin 3125)
    [Decidable (bound j.val < v (ix2 k r))] :
    levels v j (ix2 k r) = if bound j.val < v (ix2 k r) then 1 else 0 := by
  fin_cases j
  · show k0_pay32 v (ix2 k r) = _
    pointwise [k0_pay32]
    exact indicator _ 0 (by simp [bound]) _
  · show k0_pay33 v (ix2 k r) = _
    pointwise [k0_pay33]
    exact indicator _ 1 (named_at rfl (by norm_num)) _
  · show k0_pay34 v (ix2 k r) = _
    pointwise [k0_pay34]
    exact indicator _ 2 (named_at rfl (by norm_num)) _
  · show k0_pay35 v (ix2 k r) = _
    pointwise [k0_pay35]
    exact indicator _ 3 (named_at rfl (by norm_num)) _
  · show k0_pay36 v (ix2 k r) = _
    pointwise [k0_pay36]
    exact indicator _ 4 (named_at rfl (by norm_num)) _
  · show k0_pay37 v (ix2 k r) = _
    pointwise [k0_pay37]
    exact indicator _ 5 half_eq _
  · show k0_pay38 v (ix2 k r) = _
    pointwise [k0_pay38]
    exact indicator _ 6 (named_at rfl (by norm_num)) _
  · show k0_pay39 v (ix2 k r) = _
    pointwise [k0_pay39]
    exact indicator _ 7 (named_at rfl (by norm_num)) _
  · pointwise [levels, k0_pay40]
    exact indicator _ 8 (named_at rfl (by norm_num)) _
  · pointwise [levels]
    exact indicator _ 9 (named_at rfl (by norm_num)) _
  · pointwise [levels]
    exact indicator _ 10 (by norm_num [bound]) _

/-- The column after a block at a place, for any table. -/
theorem added_at (t : FVec Ideal S176x3125 .bf16) (acc : Vec Ideal S176x1 .f32) (i : Fin 176):
  (shapeCast S176x1 (addf acc (matmul dot_S176x3125_S3125x1_S176x1_1_0_0_1_n_n none t (broadcast S3125x1 (Scalar.ofBits .bf16 0x3F80#16)) (constant S176x1 .f32 0x00000000#32))) shapeCasts_S176x1_S176x1 : FVec Ideal S176x1 .f32) (ix2 i 0) = acc (ix2 i 0) + ∑ r, t (ix2 i r) := by
  pointwise []
/-- The column after a block, written with the table. -/
theorem column_eq (v : FVec Ideal S8x3125 .f32) (c : FVec Ideal S8x3125 .bf16) (acc : Vec Ideal S176x1 .f32) :
    k0_pay1 v c (k0_pay32 v) (k0_pay33 v) (k0_pay34 v) (k0_pay35 v) (k0_pay36 v) (k0_pay37 v) (k0_pay38 v) (k0_pay39 v)
      (k0_pay40 v) acc
    = shapeCast S176x1 (addf acc (matmul dot_S176x3125_S3125x1_S176x1_1_0_0_1_n_n none
      (table (stack (levels v)) c) (broadcast S3125x1 (Scalar.ofBits .bf16 0x3F80#16))
      (constant S176x1 .f32 0x00000000#32))) shapeCasts_S176x1_S176x1 := rfl

/-- The column after a block at a place: the entry before it plus the sum of the tallies of the block's rows of that group. -/
theorem step_at (x : Vec Ideal S25000x32 .f32) (l : Vec Ideal S1x8x3125 .i32) (acc : Vec Ideal S176x1 .f32) (j : Fin 22)
    (k : Fin 8) : step x l acc (ix2 ⟨j.val * 8 + k.val, by omega⟩ 0) = acc (ix2 ⟨j.val * 8 + k.val, by omega⟩ 0)
      + (((∑ r : Fin 3125, tally j.val (row x k r) (l (ix3 0 k r)) : ℕ) : ℝ) : EReal) := by
  classical
  unfold step
  rw [column_eq, added_at, coe_sum]
  refine congrArg (acc (ix2 ⟨j.val * 8 + k.val, by omega⟩ 0) + ·) (Finset.sum_congr rfl fun r _ => ?_)
  rw [table_at]
  unfold tally
  by_cases hj : j.val < 11
  · rw [dif_pos hj, if_pos hj, stack_at, levels_at, maxes_at]
    split_ifs <;> simp
  · rw [dif_neg hj, if_neg hj, stack_at, levels_at, maxes_at, correct_at]
    simp only
    by_cases h1 : bound (j.val - 11) < top (row x k r) <;> by_cases h2 : Hit (row x k r) (l (ix3 0 k r)) <;>
      simp [h1, h2]

end Cert.KernelIdeal.Body
end
-- ==== Proof.Column.lean ====
/-
  The finished column of counts, and the ten results, as totals over all two million rows.
-/
module

public import proofs.«01_k».proof.Proof.Step
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem Cert.Rows

/-- The list of labels in blocks of eight groups, entry by entry. -/
theorem grouped_at (L : Vec Ideal S2000000 .i32) (t : Fin 80) (k : Fin 8) (r : Fin 3125)
    (h : t.val * 25000 + (k.val * 3125 + r.val) < 2000000) :
    shapeCast S80x8x3125 L shapeCasts_S2000000_S80x8x3125 (ix3 t k r)
      = L (ix1 ⟨t.val * 25000 + (k.val * 3125 + r.val), h⟩) := by
  pointwise []
  exact congrArg (fun z => L (ix1 z)) (Fin.ext (Nat.add_assoc _ _ _))

section
variable (m : (ℓ : Loc nD τ sig) → Buf (Elt Ideal) ℓ) (c : Dev nD)

/-- Point `t` reads the logits block that starts at block row `t`. -/
theorem index0 : ∀ t : Fin cfg0.N, win0_0.index t 0 = t.val ∧ win0_0.index t 1 = 0 := by decide +kernel

/-- Point `t` reads block `t` of the regrouped labels. -/
theorem index1 : ∀ t : Fin cfg0.N, win0_1.index t 0 = t.val ∧ win0_1.index t 1 = 0 ∧ win0_1.index t 2 = 0 := by
  decide +kernel

/-- The block of logits at point `t`, entry by entry. -/
theorem block0_at (t : Fin cfg0.N) (i : Fin 25000) (j : Fin 32) (h : t.val * 25000 + i.val < 2000000) :
    (iblk m c 0 t : Vec Ideal S25000x32 .f32) (ix2 i j)
      = m ((c : Thread nD τ).loc main_arg0) (ix2 ⟨t.val * 25000 + i.val, h⟩ j) := by
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 25000 + 1 * i.val = t.val * 25000 + i.val; rw [(index0 t).1]; omega
  | ⟨1, _⟩ => show win0_0.index t 1 * 32 + 1 * j.val = j.val; rw [(index0 t).2]; omega

/-- The second input as the region finds it: the labels regrouped. -/
theorem entry1 : V m c main_v0 = shapeCast S80x8x3125 (m ((c : Thread nD τ).loc main_arg1)) shapeCasts_S2000000_S80x8x3125 := by
  entry_read
  rfl

/-- The block of labels at point `t`, entry by entry. -/
theorem block1_at (t : Fin cfg0.N) (k : Fin 8) (r : Fin 3125) (h : t.val * 25000 + (k.val * 3125 + r.val) < 2000000) :
    (iblk m c 1 t : Vec Ideal S1x8x3125 .i32) (ix3 0 k r)
      = m ((c : Thread nD τ).loc main_arg1) (ix1 ⟨t.val * 25000 + (k.val * 3125 + r.val), h⟩) := by
  have ht : t.val < 80 := by omega
  unfold iblk
  rw [View.read_apply]
  show V m c main_v0 _ = m (c.tc.loc main_arg1) _
  rw [entry1]
  have hi : ∀ z : S80x8x3125.Idx, (z 0).val = t.val → (z 1).val = k.val → (z 2).val = r.val → z = ix3 ⟨t.val, ht⟩ k r := by
    intro z h0 h1 h2
    funext a
    apply Fin.ext
    match a with
    | ⟨0, _⟩ => exact h0
    | ⟨1, _⟩ => exact h1
    | ⟨2, _⟩ => exact h2
  refine (congrArg (shapeCast S80x8x3125 (m (c.tc.loc main_arg1)) shapeCasts_S2000000_S80x8x3125) (hi _
    (by show win0_1.index t 0 * 1 + 1 * 0 = t.val; rw [(index1 t).1]; omega)
    (by show win0_1.index t 1 * 8 + 1 * k.val = k.val; rw [(index1 t).2.1]; omega)
    (by show win0_1.index t 2 * 3125 + 1 * r.val = r.val; rw [(index1 t).2.2]; omega))).trans ?_
  exact grouped_at _ _ k r h

/-- The tally of one block's group, of the arrays themselves. -/
theorem block_tally (j : Fin 22) (k : Fin 8) (t : Fin cfg0.N) (h8 : t.val < 80) :
    (((∑ r : Fin 3125, tally j.val (row (iblk m c 0 t) k r) ((iblk m c 1 t : Vec Ideal S1x8x3125 .i32) (ix3 0 k r)) : ℕ) : ℝ) : EReal)
      = (((∑ r : Fin 3125,
          tally j.val (rows (m ((c : Thread nD τ).loc main_arg0)) ⟨t.val * 25000 + (k.val * 3125 + r.val), by omega⟩)
            (labels (m ((c : Thread nD τ).loc main_arg1)) ⟨t.val * 25000 + (k.val * 3125 + r.val), by omega⟩) : ℕ) : ℝ) : EReal) := by
  refine congrArg (fun z : ℕ => ((z : ℝ) : EReal)) (Finset.sum_congr rfl fun r _ => ?_)
  rw [block1_at m c t k r (by omega)]
  refine congrArg₂ (tally j.val) ?_ rfl
  funext q
  exact congrArg (fun z : EReal => z - Ideal.ofBits .f32 869711765#32)
    (block0_at m c t ⟨k.val * 3125 + r.val, by omega⟩ q (by dsimp only; omega))

/-- The column after point `n`: the tallies of the rows of points `0` to `n`, group by group. -/
theorem column_at (j : Fin 22) (k : Fin 8) : ∀ (n : ℕ) (h : n < cfg0.N) (h8 : n < 80),
    column m c n h (ix2 ⟨j.val * 8 + k.val, by omega⟩ 0)
      = (((∑ t : Fin (n + 1), ∑ r : Fin 3125,
          tally j.val (rows (m ((c : Thread nD τ).loc main_arg0)) ⟨t.val * 25000 + (k.val * 3125 + r.val), by omega⟩)
            (labels (m ((c : Thread nD τ).loc main_arg1)) ⟨t.val * 25000 + (k.val * 3125 + r.val), by omega⟩) : ℕ) : ℝ) : EReal)
  | 0, h, h8 => by
    have h0 : column m c 0 h = step (iblk m c 0 ⟨0, h⟩) (iblk m c 1 ⟨0, h⟩) (k0_pay3 (F := Ideal)) := rfl
    have hz : (k0_pay3 (F := Ideal)) (ix2 ⟨j.val * 8 + k.val, by omega⟩ 0) = 0 := by
      pointwise [k0_pay3]
    rw [h0, step_at, block_tally m c j k ⟨0, h⟩ h8, hz, zero_add, Fin.sum_univ_one]
    rfl
  | n + 1, h, h8 => by
    have h0 : column m c (n + 1) h = step (iblk m c 0 ⟨n + 1, h⟩) (iblk m c 1 ⟨n + 1, h⟩) (column m c n (Nat.lt_of_succ_lt h)) := rfl
    rw [h0, step_at, block_tally m c j k ⟨n + 1, h⟩ h8, column_at j k n _ (by omega), Fin.sum_univ_castSucc (n := n + 1), Nat.cast_add,
      EReal.coe_add]
    rfl

/-- A group's total, of the finished column. -/
theorem total_at (j : Fin 22) (h : 79 < cfg0.N) :
    ∑ k : Fin 8, column m c 79 h (ix2 ⟨j.val * 8 + k.val, by omega⟩ 0)
      = (((total j.val (rows (m ((c : Thread nD τ).loc main_arg0))) (labels (m ((c : Thread nD τ).loc main_arg1))) : ℕ) : ℝ)
        : EReal) := by
  rw [total, ← sum_blocks, coe_sum]
  exact Finset.sum_congr rfl fun k _ => column_at m c j k 79 h (by decide)

/-- A result in terms of four totals. -/
theorem result_at (i : Fin 10) : (Value.G2 m c : FVec Ideal S1x10 .f32) (ix2 0 i)
    = ratio i.val (rows (m ((c : Thread nD τ).loc main_arg0))) (labels (m ((c : Thread nD τ).loc main_arg1))) := by
  have hN : 79 < cfg0.N := lt_of_lt_of_eq (by decide) N_0.symm
  rw [result]
  pointwise [k0_pay2]
  have h0 := total_at m c ⟨i.val, by omega⟩ hN
  have h1 := total_at m c ⟨1 + i.val, by omega⟩ hN
  have h2 := total_at m c ⟨11 + i.val, by omega⟩ hN
  have h3 := total_at m c ⟨12 + i.val, by omega⟩ hN
  dsimp only at h0 h1 h2 h3
  rw [h0, h1, h2, h3]
  rfl
end

end Cert.KernelIdeal.Body

end
-- ==== Proof.RefLine.lean ====
/-
  The reference is a straight line of 338 host operations: the line, and what its run leaves in every buffer.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Line

open Cert.ReferenceIdeal Idealize.ShloMosaic Idealize.ShloMosaic.TcCoe Idealize.SL.Sem

/-- The operations of the reference, in order. -/
def line : {ops : List (HloOp τ sig (Elt Ideal)) // ∀ d, StableHlo.IsSeq (main (F := Ideal) d) ops} := by
  fapply Subtype.mk
  rotate_left
  hlo_seq

/-- The reference allocates no buffer for a scope. -/
theorem no_scoped_buffer : (Finset.univ.filter fun b : Ref sig .tc => b.isScoped) = ∅ := by decide +kernel

/-- It allocates no semaphore for a scope. -/
theorem no_scoped_semaphore : (Finset.univ.filter fun sm : SemLoc sig => sm.isScoped .tc) = ∅ := by decide +kernel

/-- No operation of the line writes a buffer afresh. -/
theorem line_fresh : ∀ op ∈ line.1, op.fresh = ∅ := by
  have h : line.1.Forall fun op => op.fresh = ∅ := by
    unfold line
    simp only [List.forall_cons]
    repeat' apply And.intro
    all_goals first | rfl | trivial
  exact List.forall_iff_forall_mem.1 h

/-- Every operation of the line reads and writes buffers of the core. -/
theorem line_sub : line.1.Forall fun op => op.bufs ⊆ StableHlo.tcRefs τ sig := by
  unfold line
  simp

/-- The reference runs to the line's results at every buffer. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b)
        = StableHlo.after line.1 (StableHlo.launchContents m d) (Proc.devRef .tc b) :=
  StableHlo.run_hlo defs main line.2 no_scoped_buffer no_scoped_semaphore line_sub line_fresh m ρ

end Cert.ReferenceIdeal.Line

end
-- ==== Proof.RefRows.lean ====
/-
  What the reference computes of one row: the largest entry, and the first column that holds it, found by a fold over the
  pairs of an entry and its column.
-/
module

public import proofs.«01_k».proof.Proof.Rows
public import proofs.«01_k».proof.Proof.Words
public import proofs.«01_k».proof.Defs
public import proofs.«01_k».proof.Proof.Gen.ReferenceIdeal
public import Idealize.ShloMosaic.Lib.Pointwise

@[expose] public section

set_option maxRecDepth 16384

noncomputable section

namespace Cert.ReferenceIdeal.Line

open Cert.ReferenceIdeal Idealize.ShloMosaic Cert.Rows

open Facts₀ Facts

/-- The logits less the small constant. -/
def scores (X : FVec Ideal S2000000x32 .f32) : FVec Ideal S2000000x32 .f32 :=
  subf X (broadcastInDim S2000000x32 ![] bcast_S_S2000000x32 (constant S_ .f32 0x33D6BF95#32))

/-- The scores, entry by entry. -/
theorem scores_at (X : FVec Ideal S2000000x32 .f32) (n : Fin 2000000) (c : Fin 32) : scores X (ix2 n c) = rows X n c := by
  pointwise [scores]
  rfl

/-- The largest score of each row. -/
def tops (X : FVec Ideal S2000000x32 .f32) : FVec Ideal S2000000 .f32 :=
  Host.reduce FloatOps.maximumf (scores X) (constant S_ .f32 0xFF800000#32) reducesTo_S2000000x32_S2000000_d1 h_S_

/-- Each row's largest score. -/
theorem tops_at (X : FVec Ideal S2000000x32 .f32) (n : Fin 2000000) : tops X (ix1 n) = top (rows X n) := by
  have hs : ∀ c, scores X (ix2 n c) = rows X n c := scores_at X n
  generalize hS : scores X = S at hs
  pointwise [tops]
  rw [hS]
  simp only [hs, Words.minus_infinity]
  rfl

/-! ### The fold over pairs -/

/-- The state of the fold after the columns `S`: a value that no entry of `S` exceeds and the number of a column; the value
is that column's entry and no earlier column of `S` holds it, or the value is still minus infinity and the number zero. -/
def Seen (x : Fin 32 → EReal) (S : Set (Fin 32)) (p : EReal × BitVec 32) : Prop :=
  ∃ k : Fin 32, p.2 = BitVec.ofNat 32 k.val ∧ (∀ c ∈ S, x c ≤ p.1) ∧ (∀ c ∈ S, x c = p.1 → k ≤ c)
    ∧ ((k ∈ S ∧ x k = p.1) ∨ (p.1 = ⊥ ∧ k = 0))

/-- The signed comparison of two column numbers. -/
theorem less_columns : ∀ k c : Fin 32, (BitVec.ofNat 32 k.val).slt (BitVec.ofNat 32 c.val) = decide (k < c) := by
  decide +kernel

/-- One step of the fold takes column `c` in. -/
theorem seen_step (x : Fin 32 → EReal) (S : Set (Fin 32)) (p : EReal × BitVec 32) (c : Fin 32) (h : Seen x S p) :
    Seen x (insert c S) (reducer_argmax_f32_i32 (F := Ideal) p (x c, BitVec.ofNat 32 c.val)) := by
  obtain ⟨v, i⟩ := p
  obtain ⟨k, hk, hle, hmin, hor⟩ := h
  dsimp only at hk hle hmin hor
  subst hk
  have hl : reducer_argmax_f32_i32 (F := Ideal) (v, BitVec.ofNat 32 k.val) (x c, BitVec.ofNat 32 c.val)
      = (if x c < v then v else x c, if x c < v ∨ (v = x c ∧ k < c) then BitVec.ofNat 32 k.val else BitVec.ofNat 32 c.val) := by
    unfold reducer_argmax_f32_i32
    simp only [Ideal.cmpf_def, Ideal.cmp, IntOp.cmpi, less_columns, Scalar.select, IntOp.ori, IntOp.andi]
    by_cases h1 : x c < v
    · by_cases h2 : v = x c <;> by_cases h3 : k < c <;> simp [h1, h2, h3]
    · by_cases h2 : v = x c <;> by_cases h3 : k < c <;> simp [h1, h2, h3]
  rw [hl]
  rcases lt_trichotomy (x c) v with hlt | heq | hgt
  · rw [if_pos hlt, if_pos (Or.inl hlt)]
    refine ⟨k, rfl, ?_, ?_, ?_⟩
    · rintro d (rfl | hd)
      · exact hlt.le
      · exact hle d hd
    · rintro d (rfl | hd) he
      · exact absurd he hlt.ne
      · exact hmin d hd he
    · exact hor.imp (fun g => ⟨Or.inr g.1, g.2⟩) id
  · rw [if_neg heq.not_lt]
    by_cases hkc : k < c
    · rw [if_pos (Or.inr ⟨heq.symm, hkc⟩)]
      refine ⟨k, rfl, ?_, ?_, ?_⟩
      · rintro d (rfl | hd)
        · exact le_refl _
        · exact (hle d hd).trans heq.ge
      · rintro d (rfl | hd) he
        · exact hkc.le
        · exact hmin d hd (he.trans heq)
      · exact hor.imp (fun g => ⟨Or.inr g.1, g.2.trans heq.symm⟩) (fun g => ⟨heq.trans g.1, g.2⟩)
    · rw [if_neg (by rintro (h' | h'); exacts [heq.not_lt h', hkc h'.2])]
      refine ⟨c, rfl, ?_, ?_, Or.inl ⟨Or.inl rfl, rfl⟩⟩
      · rintro d (rfl | hd)
        · exact le_refl _
        · exact (hle d hd).trans heq.ge
      · rintro d (rfl | hd) he
        · exact le_refl _
        · exact (not_lt.1 hkc).trans (hmin d hd (he.trans heq))
  · rw [if_neg hgt.not_gt, if_neg (by rintro (h' | h'); exacts [hgt.not_gt h', hgt.ne h'.1])]
    refine ⟨c, rfl, ?_, ?_, Or.inl ⟨Or.inl rfl, rfl⟩⟩
    · rintro d (rfl | hd)
      · exact le_refl _
      · exact (hle d hd).trans hgt.le
    · rintro d (rfl | hd) he
      · exact le_refl _
      · exact absurd (hle d hd) (not_le.2 (he ▸ hgt))

/-- The fold over a list of pairs that belong to columns takes all of them in. -/
theorem seen_fold (x : Fin 32 → EReal) : ∀ (l : List (EReal × BitVec 32)) (S : Set (Fin 32)) (p : EReal × BitVec 32),
    (∀ q ∈ l, ∃ c : Fin 32, q = (x c, BitVec.ofNat 32 c.val)) → Seen x S p →
    ∃ T : Set (Fin 32), S ⊆ T ∧ (∀ c : Fin 32, (x c, BitVec.ofNat 32 c.val) ∈ l → c ∈ T)
      ∧ Seen x T (l.foldl (reducer_argmax_f32_i32 (F := Ideal)) p)
  | [], S, p, _, h => ⟨S, subset_rfl, fun _ hc => absurd hc List.not_mem_nil, h⟩
  | q :: l, S, p, hl, h => by
    obtain ⟨c, rfl⟩ := hl q List.mem_cons_self
    obtain ⟨T, hT, hin, hs⟩ := seen_fold x l _ _ (fun q hq => hl q (List.mem_cons_of_mem _ hq)) (seen_step x S p c h)
    refine ⟨T, (Set.subset_insert _ _).trans hT, fun d hd => ?_, hs⟩
    rcases List.mem_cons.1 hd with he | hd
    · have hdc : d = c := by
        have := congrArg BitVec.toNat (Prod.mk.inj he).2
        simp only [BitVec.toNat_ofNat] at this
        exact Fin.ext (by omega)
      exact hT (hdc ▸ Set.mem_insert _ _)
    · exact hin d hd

/-- Once every column is taken in, the number is that of the first column that holds the largest entry. -/
theorem first_of_seen {x : Fin 32 → EReal} {T : Set (Fin 32)} {p : EReal × BitVec 32} (hT : ∀ c, c ∈ T) (h : Seen x T p) :
    ∃ k : Fin 32, IsFirst x k ∧ p.2 = BitVec.ofNat 32 k.val := by
  obtain ⟨k, hk, hle, hmin, hor⟩ := h
  have hx : x k = p.1 := by
    rcases hor with g | ⟨g, rfl⟩
    · exact g.2
    · exact le_antisymm (hle 0 (hT 0)) (g ▸ bot_le)
  have ht : top x = p.1 := le_antisymm (Finset.sup_le fun c _ => hle c (hT c)) (hx ▸ Finset.le_sup (Finset.mem_univ k))
  refine ⟨k, ⟨hx.trans ht.symm, fun d hd he => ?_⟩, hk⟩
  exact absurd (hmin d (hT d) (he.trans ht)) (not_le.2 hd)

/-- The pairs that a two-operand reduction of a table along its second axis folds over at row `i`: those of the row. -/
theorem mem_fiber {p q : ℕ} {α β : Type} (x : (⟨2, ![p, q]⟩ : Shape).Idx → α) (y : (⟨2, ![p, q]⟩ : Shape).Idx → β)
    (h : (⟨2, ![p, q]⟩ : Shape).ReducesTo [1] ⟨1, ![p]⟩) (i : Fin p) (z : α × β) :
    z ∈ Host.argReduceFiber x y h (ix1 i) ↔ ∃ c : Fin q, z = (x (ix2 i c), y (ix2 i c)) := by
  rw [Host.argReduceFiber, List.mem_map]
  constructor
  · rintro ⟨k, hk, rfl⟩
    obtain ⟨c, hc⟩ := (Shape.ReducesTo.fiber_r2_a1 h _ _).1 (of_decide_eq_true (List.mem_filter.1 hk).2)
    refine ⟨c, ?_⟩
    rw [← hc]
    rfl
  · rintro ⟨c, rfl⟩
    refine ⟨(⟨2, ![p, q]⟩ : Shape).rowMajor (ix2 i c), List.mem_filter.2 ⟨List.mem_finRange _, decide_eq_true ?_⟩, ?_⟩
    · rw [Equiv.symm_apply_apply]
      exact (Shape.ReducesTo.fiber_r2_a1 h _ _).2 ⟨c, rfl⟩
    · rw [Equiv.symm_apply_apply]

/-- The second components of a family of pairs. -/
def seconds {ι α β : Type} (f : ι → α × β) : ι → β := fun j => (f j).2

/-- The second component, at an index. -/
theorem seconds_apply {ι α β : Type} (f : ι → α × β) (j : ι) : seconds f j = (f j).2 := rfl

/-- The first column that holds the largest score of each row. -/
def places (X : FVec Ideal S2000000x32 .f32) : IVec S2000000 32 :=
  seconds (Host.argReduce reducer_argmax_f32_i32 (scores X) (iotaInDim S2000000x32 32 1) (constant S_ .f32 0xFF800000#32)
    (constantI S_ 32 0#32) reducesTo_S2000000x32_S2000000_d1 h_S_)

/-- The pair that the fold starts from: minus infinity and column zero. -/
theorem start : ((constant S_ .f32 0xFF800000#32 : FVec Ideal S_ .f32) (Shape.Idx.first h_S_),
    constantI S_ 32 0#32 (Shape.Idx.first h_S_)) = ((⊥ : EReal), 0#32) :=
  Prod.ext Words.minus_infinity rfl

/-- The fold over a list of exactly the pairs of a row gives the first column that holds the row's largest entry. -/
theorem first_of_fold (x : Fin 32 → EReal) (l : List (EReal × BitVec 32))
    (hl : ∀ z, z ∈ l ↔ ∃ c : Fin 32, z = (x c, BitVec.ofNat 32 c.val)) :
    ∃ k : Fin 32, IsFirst x k ∧ (l.foldl (reducer_argmax_f32_i32 (F := Ideal)) ((⊥ : EReal), 0#32)).2 = BitVec.ofNat 32 k.val := by
  obtain ⟨T, -, hin, hs⟩ := seen_fold x l ∅ (⊥, 0#32) (fun q hq => (hl q).1 hq)
    ⟨0, rfl, fun _ h => absurd h (Set.notMem_empty _), fun _ h => absurd h (Set.notMem_empty _), Or.inr ⟨rfl, rfl⟩⟩
  exact first_of_seen (fun c => hin c ((hl _).2 ⟨c, rfl⟩)) hs

/-- The reduction at a row, for any scores and numbers of columns. -/
theorem places_of (S : FVec Ideal S2000000x32 .f32) (y : IVec S2000000x32 32) (n : Fin 2000000) (x : Fin 32 → EReal)
    (hS : ∀ c : Fin 32, S (ix2 n c) = x c) (hy : ∀ c : Fin 32, y (ix2 n c) = BitVec.ofNat 32 c.val) :
    ∃ k : Fin 32, IsFirst x k ∧ seconds (Host.argReduce reducer_argmax_f32_i32 S y (constant S_ .f32 0xFF800000#32)
      (constantI S_ 32 0#32) reducesTo_S2000000x32_S2000000_d1 h_S_) (ix1 n) = BitVec.ofNat 32 k.val := by
  rw [seconds_apply]
  rw [Ideal.argReduce_eq_reduce2]
  rw [Host.reduce2_eq_foldl_fiber]
  generalize hl : Host.argReduceFiber S y reducesTo_S2000000x32_S2000000_d1 (ix1 n) = l
  have hm : ∀ z, z ∈ l ↔ ∃ c : Fin 32, z = (x c, BitVec.ofNat 32 c.val) := by
    intro z
    rw [← hl, mem_fiber]
    simp only [hS, hy]
  clear hl
  rw [start]
  exact first_of_fold x l hm

/-- The numbers of the columns. -/
theorem column_number (n : Fin 2000000) (c : Fin 32) : iotaInDim S2000000x32 32 1 (ix2 n c) = BitVec.ofNat 32 c.val := by
  pointwise []

/-- Each row's first column, found by the fold. -/
theorem places_at (X : FVec Ideal S2000000x32 .f32) (n : Fin 2000000) :
    ∃ k : Fin 32, IsFirst (rows X n) k ∧ places X (ix1 n) = BitVec.ofNat 32 k.val :=
  places_of (scores X) (iotaInDim S2000000x32 32 1) n (rows X n) (scores_at X n) (column_number n)

/-- One where the label of the row names that column. -/
def hits (X : FVec Ideal S2000000x32 .f32) (L : IVec S2000000 32) : IVec S2000000 1 := cmpi .eq (places X) L

/-- Two words compared for equality. -/
theorem equal_words (a b : BitVec 32) : IntOp.cmpi .eq a b = 1#1 ↔ b = a := by
  show BitVec.ofBool (a == b) = 1#1 ↔ b = a
  by_cases h : a = b
  · simp [h]
  · rw [beq_eq_false_iff_ne.2 h]
    exact iff_of_false (by decide) (Ne.symm h)

/-- The comparison says whether the label hits. -/
theorem hits_at (X : FVec Ideal S2000000x32 .f32) (L : IVec S2000000 32) (n : Fin 2000000) :
    hits X L (ix1 n) = 1#1 ↔ Hit (rows X n) (labels L n) := by
  obtain ⟨k, hk, hp⟩ := places_at X n
  unfold hits
  generalize places X = P at hp
  rw [hit_iff hk, ← hp]
  exact equal_words (P (ix1 n)) (L (ix1 n))

/-! ### The bounds of the bins -/

/-- The eleven bounds, from the formula of the linear spacing between zero and one. -/
def edges : FVec Ideal S11 .f32 :=
  let t := Host.divf (sitofp .f32 (iotaInDim S10 32 0)) (broadcastInDim S10 ![] bcast_S_S10 (constant S_ .f32 0x41200000#32))
  concatenate S11 0 [⟨S10, addf
      (mulf (broadcastInDim S10 ![0] bcast_S1_S10_0 (shapeCast S1 (constant S_ .f32 0x00000000#32) shapeCasts_S_S1))
        (subf (broadcastInDim S10 ![] bcast_S_S10 (constant S_ .f32 0x3F800000#32)) t))
      (mulf (broadcastInDim S10 ![0] bcast_S1_S10_0 (shapeCast S1 (constant S_ .f32 0x3F800000#32) shapeCasts_S_S1)) t)⟩,
    ⟨S1, broadcastInDim S1 ![] bcast_S_S1 (constant S_ .f32 0x3F800000#32)⟩] concatenates_S10_S1_S11_d0

/-- Bound `j` is `j / 10`. -/
theorem edges_at (j : Fin 11) : edges (ix1 j) = bound j.val := by
  pointwise [edges]
  rw [Words.ten]
  have hn : (FloatOps.sitofp (F := Ideal) FTy.f32 (BitVec.ofNat 32 j.val) : EReal) = ((j.val : ℝ) : EReal) := by
    show ((((BitVec.ofNat 32 j.val).toInt : ℤ) : ℝ) : EReal) = _
    rw [BitVec.toInt_eq_toNat_cond, BitVec.toNat_ofNat, Nat.mod_eq_of_lt (by omega), if_pos (by omega)]
    simp
  rw [hn, Ideal.div_coe (by norm_num), ← EReal.coe_mul]
  by_cases h : j.val < 10
  · rw [dif_pos h, zero_mul, zero_add, bound]
    congr 1
    ring
  · rw [dif_neg h, bound, show j.val = 10 by omega]
    norm_num

end Cert.ReferenceIdeal.Line

end
-- ==== Proof.RefRead.lean ====
/-
  What the buffers of the reference hold after stretches of its line of operations: the prelude's bounds, largest scores
  and hits, the ten shares, and the row they are laid out in.
-/
module

public import proofs.«01_k».proof.Proof.RefLine
public import proofs.«01_k».proof.Proof.RefRows

@[expose] public section

set_option maxRecDepth 16384

noncomputable section

namespace Cert.ReferenceIdeal.Line

open Cert.ReferenceIdeal Idealize.ShloMosaic Idealize.ShloMosaic.TcCoe Idealize.SL.Sem
open Facts₀ Facts

/-- The lower bounds of the ten bins. -/
def lowers : FVec Ideal S10 .f32 := extractStridedSlice S10 ![0] edges slices_S11_S10_0

/-- The upper bounds of the ten bins. -/
def uppers : FVec Ideal S10 .f32 := extractStridedSlice S10 ![1] edges slices_S11_S10_1

/-- One where the row's largest score lies in bin `i`. -/
def within (i : ℕ) (h : S10.Slices ![i] S1) (lo up : FVec Ideal S10 .f32) (T : FVec Ideal S2000000 .f32) : IVec S2000000 1 :=
  andi (cmpf .ogt T (broadcastInDim S2000000 ![] bcast_S_S2000000 (shapeCast S_ (extractStridedSlice S1 ![i] lo h) shapeCasts_S1_S_)))
    (cmpf .ole T (broadcastInDim S2000000 ![] bcast_S_S2000000 (shapeCast S_ (extractStridedSlice S1 ![i] up h) shapeCasts_S1_S_)))

/-- The number zero as a float of no axes. -/
def zero : FVec Ideal S_ .f32 := constant S_ .f32 0x00000000#32

/-- How many rows are marked, summed up in floats. -/
def marked (W : IVec S2000000 1) : FVec Ideal S_ .f32 :=
  Host.reduceAdd (uitofp .f32 W) zero reducesTo_S2000000_S_d0 h_S_

/-- How many rows are marked, summed up in integers. -/
def counted (W : IVec S2000000 1) : IVec S_ 32 :=
  Host.reduce IntOp.addi (extui 32 W natLt_1_32) (constantI S_ 32 0#32) reducesTo_S2000000_S_d0 h_S_

/-- The fraction of the rows marked in `W` that are marked in `H`, zero where `W` marks none. -/
def share (W H : IVec S2000000 1) : FVec Ideal S_ .f32 :=
  select (cmpf .ogt (Host.divf (marked W) (constant S_ .f32 0x49F42400#32)) zero)
    (Host.divf (marked (andi H W)) (sitofp .f32 (maxsi (counted W) (constantI S_ 32 1#32)))) zero

section
variable (σ : (b : DevRef τ sig) → b.ty.Contents (Elt Ideal))

/-! ### The prelude -/

/-- A value written into the buffer of the first columns is read back as it is. -/
theorem plain6 (p q r) (v : IVec S2000000 32) :
    (StableHlo.TRef.of main_v6 p q r : StableHlo.TRef sig ⟨S2000000, .i32⟩).toBuf (Val := Elt Ideal) v = v := rfl

/-- The scores, read from their buffer, are what it holds. -/
theorem plain4 (p q r) (v : FVec Ideal S2000000x32 .f32) :
    (StableHlo.TRef.of main_v4 p q r : StableHlo.TRef sig ⟨S2000000x32, .f32⟩).ofBuf (Val := Elt Ideal) v = v := rfl

/-- After the prelude, the bounds and the largest scores. -/
theorem prelude_bounds :
    StableHlo.after (line.1.take 36) σ (Proc.devRef .tc main_v1) = lowers
    ∧ StableHlo.after (line.1.take 36) σ (Proc.devRef .tc main_v2) = uppers
    ∧ StableHlo.after (line.1.take 36) σ (Proc.devRef .tc main_v5) = tops (σ (Proc.devRef .tc main_arg0)) := by
  unfold line
  simp only [List.take_succ_cons, List.take_zero]
  refine ⟨?_, ?_, ?_⟩ <;> (after_results; rfl)

/-- After the prelude, the hits. -/
theorem prelude_hits : StableHlo.after (line.1.take 36) σ (Proc.devRef .tc main_v7)
    = hits (σ (Proc.devRef .tc main_arg0)) (σ (Proc.devRef .tc main_arg1)) := by
  unfold line
  simp only [List.take_succ_cons, List.take_zero]
  after_results
  unfold hits places seconds scores
  simp only [StableHlo.TRef.ofBuf_toBuf, plain6, plain4]

/-! ### The ten bins -/

/-- After the bins, the ten shares. -/
theorem shares :
    StableHlo.after ((line.1.drop 36).take 290) σ (Proc.devRef .tc main_v29)
      = share (within 0 slices_S10_S1_0 (σ (Proc.devRef .tc main_v1)) (σ (Proc.devRef .tc main_v2)) (σ (Proc.devRef .tc main_v5))) (σ (Proc.devRef .tc main_v7))
    ∧ StableHlo.after ((line.1.drop 36).take 290) σ (Proc.devRef .tc main_v51)
      = share (within 1 slices_S10_S1_1 (σ (Proc.devRef .tc main_v1)) (σ (Proc.devRef .tc main_v2)) (σ (Proc.devRef .tc main_v5))) (σ (Proc.devRef .tc main_v7))
    ∧ StableHlo.after ((line.1.drop 36).take 290) σ (Proc.devRef .tc main_v73)
      = share (within 2 slices_S10_S1_2 (σ (Proc.devRef .tc main_v1)) (σ (Proc.devRef .tc main_v2)) (σ (Proc.devRef .tc main_v5))) (σ (Proc.devRef .tc main_v7))
    ∧ StableHlo.after ((line.1.drop 36).take 290) σ (Proc.devRef .tc main_v95)
      = share (within 3 slices_S10_S1_3 (σ (Proc.devRef .tc main_v1)) (σ (Proc.devRef .tc main_v2)) (σ (Proc.devRef .tc main_v5))) (σ (Proc.devRef .tc main_v7))
    ∧ StableHlo.after ((line.1.drop 36).take 290) σ (Proc.devRef .tc main_v117)
      = share (within 4 slices_S10_S1_4 (σ (Proc.devRef .tc main_v1)) (σ (Proc.devRef .tc main_v2)) (σ (Proc.devRef .tc main_v5))) (σ (Proc.devRef .tc main_v7))
    ∧ StableHlo.after ((line.1.drop 36).take 290) σ (Proc.devRef .tc main_v139)
      = share (within 5 slices_S10_S1_5 (σ (Proc.devRef .tc main_v1)) (σ (Proc.devRef .tc main_v2)) (σ (Proc.devRef .tc main_v5))) (σ (Proc.devRef .tc main_v7))
    ∧ StableHlo.after ((line.1.drop 36).take 290) σ (Proc.devRef .tc main_v161)
      = share (within 6 slices_S10_S1_6 (σ (Proc.devRef .tc main_v1)) (σ (Proc.devRef .tc main_v2)) (σ (Proc.devRef .tc main_v5))) (σ (Proc.devRef .tc main_v7))
    ∧ StableHlo.after ((line.1.drop 36).take 290) σ (Proc.devRef .tc main_v183)
      = share (within 7 slices_S10_S1_7 (σ (Proc.devRef .tc main_v1)) (σ (Proc.devRef .tc main_v2)) (σ (Proc.devRef .tc main_v5))) (σ (Proc.devRef .tc main_v7))
    ∧ StableHlo.after ((line.1.drop 36).take 290) σ (Proc.devRef .tc main_v205)
      = share (within 8 slices_S10_S1_8 (σ (Proc.devRef .tc main_v1)) (σ (Proc.devRef .tc main_v2)) (σ (Proc.devRef .tc main_v5))) (σ (Proc.devRef .tc main_v7))
    ∧ StableHlo.after ((line.1.drop 36).take 290) σ (Proc.devRef .tc main_v227)
      = share (within 9 slices_S10_S1_9 (σ (Proc.devRef .tc main_v1)) (σ (Proc.devRef .tc main_v2)) (σ (Proc.devRef .tc main_v5))) (σ (Proc.devRef .tc main_v7)) := by
  unfold line
  simp only [List.drop_succ_cons, List.drop_zero, List.take_succ_cons, List.take_zero]
  refine ⟨?_, ?_, ?_, ?_, ?_, ?_, ?_, ?_, ?_, ?_⟩ <;> (after_results; rfl)

/-! ### The row of results -/

/-- Ten arrays of one entry each, laid out in a row. -/
def beside (U : Fin 10 → FVec Ideal S1 .f32) : FVec Ideal S1x10 .f32 :=
  broadcastInDim S1x10 ![1] bcast_S10_S1x10_1 (concatenate S10 0 [⟨S1, U 0⟩, ⟨S1, U 1⟩, ⟨S1, U 2⟩, ⟨S1, U 3⟩, ⟨S1, U 4⟩,
    ⟨S1, U 5⟩, ⟨S1, U 6⟩, ⟨S1, U 7⟩, ⟨S1, U 8⟩, ⟨S1, U 9⟩] concatenates_S1_S1_S1_S1_S1_S1_S1_S1_S1_S1_S10_d0)

/-- The row, entry by entry. -/
theorem beside_at (U : Fin 10 → FVec Ideal S1 .f32) (j : Fin 10) : beside U (ix2 0 j) = U j (ix1 0) := by
  pointwise [beside]
  fin_cases j <;> rfl

/-- A number as an array of one entry. -/
def single (x : FVec Ideal S_ .f32) : FVec Ideal S1 .f32 := broadcastInDim S1 ![] bcast_S_S1 x

/-- Its entry. -/
theorem single_at (x : FVec Ideal S_ .f32) : single x (ix1 0) = x ix0 := by
  pointwise [single]

/-- The last two operations lay ten buffers out in a row. -/
theorem laid_out : StableHlo.after (line.1.drop 336) σ (Proc.devRef .tc main_v239)
    = beside ![σ (Proc.devRef .tc main_v228), σ (Proc.devRef .tc main_v229), σ (Proc.devRef .tc main_v230), σ (Proc.devRef .tc main_v231), σ (Proc.devRef .tc main_v232), σ (Proc.devRef .tc main_v233), σ (Proc.devRef .tc main_v234), σ (Proc.devRef .tc main_v235), σ (Proc.devRef .tc main_v236), σ (Proc.devRef .tc main_v237)] := by
  unfold line
  simp only [List.drop_succ_cons, List.drop_zero]
  rfl

/-- The ten operations before them make each result an array of one entry. -/
theorem singles :
    StableHlo.after ((line.1.drop 326).take 10) σ (Proc.devRef .tc main_v228) = single (σ (Proc.devRef .tc main_v29))
    ∧ StableHlo.after ((line.1.drop 326).take 10) σ (Proc.devRef .tc main_v229) = single (σ (Proc.devRef .tc main_v51))
    ∧ StableHlo.after ((line.1.drop 326).take 10) σ (Proc.devRef .tc main_v230) = single (σ (Proc.devRef .tc main_v73))
    ∧ StableHlo.after ((line.1.drop 326).take 10) σ (Proc.devRef .tc main_v231) = single (σ (Proc.devRef .tc main_v95))
    ∧ StableHlo.after ((line.1.drop 326).take 10) σ (Proc.devRef .tc main_v232) = single (σ (Proc.devRef .tc main_v117))
    ∧ StableHlo.after ((line.1.drop 326).take 10) σ (Proc.devRef .tc main_v233) = single (σ (Proc.devRef .tc main_v139))
    ∧ StableHlo.after ((line.1.drop 326).take 10) σ (Proc.devRef .tc main_v234) = single (σ (Proc.devRef .tc main_v161))
    ∧ StableHlo.after ((line.1.drop 326).take 10) σ (Proc.devRef .tc main_v235) = single (σ (Proc.devRef .tc main_v183))
    ∧ StableHlo.after ((line.1.drop 326).take 10) σ (Proc.devRef .tc main_v236) = single (σ (Proc.devRef .tc main_v205))
    ∧ StableHlo.after ((line.1.drop 326).take 10) σ (Proc.devRef .tc main_v237) = single (σ (Proc.devRef .tc main_v227)) := by
  unfold line
  simp only [List.drop_succ_cons, List.drop_zero, List.take_succ_cons, List.take_zero]
  refine ⟨?_, ?_, ?_, ?_, ?_, ?_, ?_, ?_, ?_, ?_⟩ <;> (after_results; rfl)

/-- The last twelve operations lay the ten results out in a row. -/
theorem tail : StableHlo.after (line.1.drop 326) σ (Proc.devRef .tc main_v239)
    = beside ![single (σ (Proc.devRef .tc main_v29)), single (σ (Proc.devRef .tc main_v51)), single (σ (Proc.devRef .tc main_v73)), single (σ (Proc.devRef .tc main_v95)), single (σ (Proc.devRef .tc main_v117)), single (σ (Proc.devRef .tc main_v139)), single (σ (Proc.devRef .tc main_v161)), single (σ (Proc.devRef .tc main_v183)), single (σ (Proc.devRef .tc main_v205)), single (σ (Proc.devRef .tc main_v227))] := by
  have h : line.1.drop 326 = (line.1.drop 326).take 10 ++ line.1.drop 336 := rfl
  obtain ⟨e0, e1, e2, e3, e4, e5, e6, e7, e8, e9⟩ := singles σ
  rw [h, StableHlo.after_append, laid_out, e0, e1, e2, e3, e4, e5, e6, e7, e8, e9]

/-- The share of bin `i` that the reference computes from the logits and the labels. -/
def binShare (X : FVec Ideal S2000000x32 .f32) (L : IVec S2000000 32) (i : ℕ) (h : S10.Slices ![i] S1) : FVec Ideal S_ .f32 :=
  share (within i h lowers uppers (tops X)) (hits X L)

/-- What the line leaves in the result buffer: the ten shares in a row. -/
theorem value (X : FVec Ideal S2000000x32 .f32) (L : IVec S2000000 32) (hX : σ (Proc.devRef .tc main_arg0) = X)
    (hL : σ (Proc.devRef .tc main_arg1) = L) : StableHlo.after line.1 σ (Proc.devRef .tc main_v239)
      = beside ![single (binShare X L 0 slices_S10_S1_0), single (binShare X L 1 slices_S10_S1_1), single (binShare X L 2 slices_S10_S1_2), single (binShare X L 3 slices_S10_S1_3), single (binShare X L 4 slices_S10_S1_4), single (binShare X L 5 slices_S10_S1_5), single (binShare X L 6 slices_S10_S1_6), single (binShare X L 7 slices_S10_S1_7), single (binShare X L 8 slices_S10_S1_8), single (binShare X L 9 slices_S10_S1_9)] := by
  have h : line.1 = line.1.take 36 ++ ((line.1.drop 36).take 290 ++ line.1.drop 326) := rfl
  obtain ⟨e0, e1, e2, e3, e4, e5, e6, e7, e8, e9⟩ := shares (StableHlo.after (line.1.take 36) σ)
  obtain ⟨p1, p2, p5⟩ := prelude_bounds σ
  rw [h, StableHlo.after_append, StableHlo.after_append, tail, e0, e1, e2, e3, e4, e5, e6, e7, e8, e9, p1, p2, p5,
    prelude_hits, hX, hL]
  rfl

/-- The line leaves the two arguments as they were. -/
theorem arguments : StableHlo.after line.1 σ (Proc.devRef .tc main_arg0) = σ (Proc.devRef .tc main_arg0)
    ∧ StableHlo.after line.1 σ (Proc.devRef .tc main_arg1) = σ (Proc.devRef .tc main_arg1) := by
  unfold line
  constructor <;> after_results
end

end Cert.ReferenceIdeal.Line

end
-- ==== Proof.Bins.lean ====
/-
  The equation between the totals above a bound and the numbers of rows in a bin: the rows of bin `i` are those above its
  lower bound less those above its upper bound.
-/
module

public import proofs.«01_k».proof.Proof.Rows

@[expose] public section

noncomputable section

namespace Cert.Rows

open Idealize.ShloMosaic

/-- How many rows have their largest entry in bin `i`: above its lower bound and at most its upper bound. -/
def inBin (i : ℕ) (x : Fin 2000000 → Fin 32 → EReal) : ℕ := by
  classical exact ∑ n, if bound i < top (x n) ∧ top (x n) ≤ bound (1 + i) then 1 else 0

/-- How many of these rows hit. -/
def hitsInBin (i : ℕ) (x : Fin 2000000 → Fin 32 → EReal) (l : Fin 2000000 → BitVec 32) : ℕ := by
  classical
  exact ∑ n, if Hit (x n) (l n) ∧ bound i < top (x n) ∧ top (x n) ≤ bound (1 + i) then 1 else 0

/-- The lower bounds ascend. -/
theorem bound_le (i : ℕ) : bound i ≤ bound (1 + i) := by
  unfold bound
  rw [EReal.coe_le_coe_iff]
  push_cast
  linarith

/-- The rows above the lower bound are those above the upper bound and those in the bin. -/
theorem total_step (i : ℕ) (hi : i < 10) (x : Fin 2000000 → Fin 32 → EReal) (l : Fin 2000000 → BitVec 32) :
    total i x l = total (1 + i) x l + inBin i x := by
  classical
  unfold total inBin
  rw [← Finset.sum_add_distrib]
  refine Finset.sum_congr rfl fun n _ => ?_
  unfold tally
  rw [if_pos (show i < 11 by omega), if_pos (show 1 + i < 11 by omega)]
  by_cases h : bound (1 + i) < top (x n)
  · rw [if_pos (lt_of_le_of_lt (bound_le i) h), if_pos h, if_neg (fun hc => not_lt.2 hc.2 h)]
  · rw [if_neg h]
    simp [not_lt.1 h]

/-- The same of the rows that hit. -/
theorem total_step_hits (i : ℕ) (hi : i < 10) (x : Fin 2000000 → Fin 32 → EReal) (l : Fin 2000000 → BitVec 32) :
    total (11 + i) x l = total (12 + i) x l + hitsInBin i x l := by
  classical
  unfold total hitsInBin
  rw [← Finset.sum_add_distrib]
  refine Finset.sum_congr rfl fun n _ => ?_
  unfold tally
  rw [if_neg (show ¬ 11 + i < 11 by omega), if_neg (show ¬ 12 + i < 11 by omega), show 11 + i - 11 = i by omega, show 12 + i - 11 = 1 + i by omega]
  by_cases hh : Hit (x n) (l n)
  · by_cases h : bound (1 + i) < top (x n)
    · rw [if_pos ⟨lt_of_le_of_lt (bound_le i) h, hh⟩, if_pos ⟨h, hh⟩, if_neg (fun hc => not_lt.2 hc.2.2 h)]
    · simp [h, hh, not_lt.1 h]
  · simp [hh]

/-- The difference of a sum and one of its terms. -/
theorem coe_difference {a b c : ℕ} (h : a = b + c) : ((a : ℝ) : EReal) - ((b : ℝ) : EReal) = ((c : ℝ) : EReal) := by
  have e : (a : ℝ) - b = c := by rw [h, Nat.cast_add, add_sub_cancel_left]
  rw [← EReal.coe_sub, e]

/-- The ratio of the four totals is the rows of the bin that hit over the rows of the bin. -/
theorem ratio_eq (i : Fin 10) (x : Fin 2000000 → Fin 32 → EReal) (l : Fin 2000000 → BitVec 32) : ratio i.val x l
    = if 0 < ((inBin i.val x : ℝ) : EReal) then
        Ideal.div ((hitsInBin i.val x l : ℝ) : EReal) (max ((inBin i.val x : ℝ) : EReal) 1) else 0 := by
  unfold ratio
  rw [coe_difference (total_step i.val i.isLt x l), coe_difference (total_step_hits i.val i.isLt x l)]

end Cert.Rows

end
-- ==== Proof.RefShare.lean ====
/-
  The share of one bin, as the reference computes it: the two numbers of rows it is made of, and the quotient.
-/
module

public import proofs.«01_k».proof.Proof.RefRead
public import proofs.«01_k».proof.Proof.Bins

@[expose] public section

set_option maxRecDepth 16384

noncomputable section

namespace Cert.ReferenceIdeal.Line

open Cert.ReferenceIdeal Cert.Rows Idealize.ShloMosaic Idealize.ShloMosaic.TcCoe Idealize.SL.Sem
open Facts₀ Facts

/-- The number of rows that a mask marks. -/
def size (W : IVec S2000000 1) : ℕ := ∑ n : Fin 2000000, if W (ix1 n) = 1#1 then 1 else 0

/-- It is at most the number of rows. -/
theorem size_le (W : IVec S2000000 1) : size W ≤ 2000000 := by
  refine le_trans (Finset.sum_le_card_nsmul Finset.univ _ 1 fun n _ => ?_) ?_
  · split_ifs <;> simp
  · rw [Finset.card_univ, Fintype.card_fin, smul_eq_mul, mul_one]

/-- One bit as a float is one or zero. -/
theorem bit_float (b : BitVec 1) : (FloatOps.uitofp (F := Ideal) FTy.f32 b : EReal) = (((if b = 1#1 then 1 else 0 : ℕ) : ℝ) : EReal) := by
  show (((b.toNat : ℕ) : ℝ) : EReal) = _
  have h : b.toNat = if b = 1#1 then 1 else 0 := by revert b; decide
  rw [h]

/-- One bit as a word is one or zero. -/
theorem bit_word (b : BitVec 1) : b.setWidth 32 = BitVec.ofNat 32 (if b = 1#1 then 1 else 0) := by
  revert b; decide

/-- A sum of words that are natural numbers is the sum of the numbers. -/
theorem fold_words {ι : Type*} (s : Finset ι) (f : ι → BitVec 32) (g : ι → ℕ) (h : ∀ i, f i = BitVec.ofNat 32 (g i)) :
    s.fold IntOp.addi 0#32 f = BitVec.ofNat 32 (∑ i ∈ s, g i) := by
  classical
  induction s using Finset.induction_on with
  | empty => rfl
  | insert a s ha ih =>
    rw [Finset.fold_insert ha, ih, Finset.sum_insert ha, h a, BitVec.ofNat_add]
    rfl

/-- The number of marked rows, as the float sum gives it. -/
theorem marked_at (W : IVec S2000000 1) : marked W ix0 = ((size W : ℝ) : EReal) := by
  unfold size
  rw [coe_sum]
  pointwise [marked, zero]
  simp only [bit_float]

/-- The number of marked rows, as the integer sum gives it. -/
theorem counted_at (W : IVec S2000000 1) : counted W ix0 = BitVec.ofNat 32 (size W) := by
  unfold size
  pointwise [counted]
  exact fold_words _ _ _ fun n => bit_word _

/-- A natural number that fits, or one if it is zero, read back from a word. -/
theorem at_least_one (w : ℕ) (hw : w ≤ 2000000) :
    (FloatOps.sitofp (F := Ideal) FTy.f32 (IntOp.maxsi (BitVec.ofNat 32 w) 1#32) : EReal) = max ((w : ℝ) : EReal) 1 := by
  have hi : (BitVec.ofNat 32 w).toInt = (w : ℤ) := by
    rw [BitVec.toInt_eq_toNat_of_lt] <;> rw [BitVec.toNat_ofNat, Nat.mod_eq_of_lt (by omega)]
    omega
  have hm : (IntOp.maxsi (BitVec.ofNat 32 w) 1#32).toInt = max (w : ℤ) 1 := by
    have h1 : (1#32).toInt = 1 := rfl
    unfold IntOp.maxsi
    rw [BitVec.slt, hi, h1]
    by_cases h : (1 : ℤ) < w
    · rw [if_pos (by simpa using h), hi, max_eq_left (le_of_lt h)]
    · rw [if_neg (by simpa using h), h1, max_eq_right (not_lt.1 h)]
  show (((IntOp.maxsi (BitVec.ofNat 32 w) 1#32).toInt : ℝ) : EReal) = _
  rw [hm, ← EReal.coe_one, ← EReal.coe_strictMono.monotone.map_max, Int.cast_max, Int.cast_natCast, Int.cast_one]

/-- A natural number over two million is positive exactly when the number is. -/
theorem fraction_pos (w : ℕ) : 0 < Ideal.div ((w : ℝ) : EReal) ((2000000 : ℝ) : EReal) ↔ 0 < ((w : ℝ) : EReal) := by
  rw [Ideal.div_coe (by norm_num), ← EReal.coe_mul, ← EReal.coe_zero, EReal.coe_lt_coe_iff, EReal.coe_lt_coe_iff]
  constructor <;> intro h
  · by_contra hn
    nlinarith
  · positivity

/-- The share: none where the mask marks no row, else the rows marked in both over the rows marked in the mask. -/
theorem share_at (W H : IVec S2000000 1) : share W H ix0
    = if 0 < ((size W : ℝ) : EReal) then Ideal.div ((size (andi H W) : ℝ) : EReal) (max ((size W : ℝ) : EReal) 1) else 0 := by
  have h1 := marked_at W
  have h2 := marked_at (andi H W)
  have h3 := counted_at W
  unfold share
  generalize marked (andi H W) = A at h2
  generalize marked W = M at h1
  generalize counted W = C at h3
  pointwise [zero]
  rw [h1, h2, h3, at_least_one _ (size_le W), Words.two_million]
  simp only [fraction_pos]

/-- A row is within bin `i` when its largest score is above the lower bound and at most the upper one. -/
theorem within_at (i : Fin 10) (h : S10.Slices ![i.val] S1) (lo up : FVec Ideal S10 .f32) (T : FVec Ideal S2000000 .f32)
    (n : Fin 2000000) : within i.val h lo up T (ix1 n) = 1#1 ↔ lo (ix1 i) < T (ix1 n) ∧ T (ix1 n) ≤ up (ix1 i) := by
  pointwise [within]
  by_cases hp : lo (ix1 i) < T (ix1 n) <;> by_cases hq : T (ix1 n) ≤ up (ix1 i) <;> simp [hp, hq, IntOp.andi]

/-- The lower bound of bin `i`. -/
theorem lowers_at (i : Fin 10) : lowers (ix1 i) = bound i.val := by
  have h := edges_at i.castSucc
  pointwise [lowers]
  exact h

/-- The upper bound of bin `i` is the next lower bound. -/
theorem uppers_at (i : Fin 10) : uppers (ix1 i) = bound (1 + i.val) := by
  have h := edges_at (i.natAdd 1)
  pointwise [uppers]
  exact h

/-- The rows of bin `i`. -/
theorem size_within (X : FVec Ideal S2000000x32 .f32) (i : Fin 10) (h : S10.Slices ![i.val] S1) :
    size (within i.val h lowers uppers (tops X)) = inBin i.val (rows X) := by
  classical
  unfold size inBin
  refine Finset.sum_congr rfl fun n _ => ?_
  simp only [within_at i, lowers_at, uppers_at, tops_at]

/-- Two bits are both one when their conjunction is. -/
theorem both_bits (a b : BitVec 1) : IntOp.andi a b = 1#1 ↔ a = 1#1 ∧ b = 1#1 := by
  revert a b; decide

/-- The rows of bin `i` that hit. -/
theorem size_hits (X : FVec Ideal S2000000x32 .f32) (L : IVec S2000000 32) (i : Fin 10) (h : S10.Slices ![i.val] S1) :
    size (andi (hits X L) (within i.val h lowers uppers (tops X))) = hitsInBin i.val (rows X) (labels L) := by
  classical
  unfold size hitsInBin
  refine Finset.sum_congr rfl fun n _ => ?_
  have hw := within_at i h lowers uppers (tops X) n
  rw [lowers_at, uppers_at, tops_at] at hw
  have hh := hits_at X L n
  generalize within i.val h lowers uppers (tops X) = W at hw
  generalize hits X L = H at hh
  have hb : andi H W (ix1 n) = 1#1 ↔ H (ix1 n) = 1#1 ∧ W (ix1 n) = 1#1 := both_bits _ _
  simp only [hb, hw, hh]

/-- The share of bin `i` is the ratio of the four totals. -/
theorem binShare_at (X : FVec Ideal S2000000x32 .f32) (L : IVec S2000000 32) (k : ℕ) (hk : k < 10) (h : S10.Slices ![k] S1) :
    binShare X L k h ix0 = ratio k (rows X) (labels L) := by
  unfold binShare
  rw [share_at, size_within X ⟨k, hk⟩ h, size_hits X L ⟨k, hk⟩ h, ratio_eq ⟨k, hk⟩]

/-- Ten arrays of one entry that hold ten numbers, taken by their position. -/
theorem entries (u0 u1 u2 u3 u4 u5 u6 u7 u8 u9 : FVec Ideal S1 .f32) (f : ℕ → EReal)
    (h0 : u0 (ix1 0) = f 0) (h1 : u1 (ix1 0) = f 1) (h2 : u2 (ix1 0) = f 2) (h3 : u3 (ix1 0) = f 3) (h4 : u4 (ix1 0) = f 4)
    (h5 : u5 (ix1 0) = f 5) (h6 : u6 (ix1 0) = f 6) (h7 : u7 (ix1 0) = f 7) (h8 : u8 (ix1 0) = f 8) (h9 : u9 (ix1 0) = f 9)
    (j : Fin 10) : (![u0, u1, u2, u3, u4, u5, u6, u7, u8, u9] : Fin 10 → FVec Ideal S1 .f32) j (ix1 0) = f j.val := by
  fin_cases j <;> assumption

/-- The result array of the reference, entry by entry. -/
theorem value_at (σ : (b : DevRef τ sig) → b.ty.Contents (Elt Ideal)) (X : FVec Ideal S2000000x32 .f32) (L : IVec S2000000 32)
    (hX : σ (Proc.devRef .tc main_arg0) = X) (hL : σ (Proc.devRef .tc main_arg1) = L) (j : Fin 10) :
    (StableHlo.after line.1 σ (Proc.devRef .tc main_v239) : FVec Ideal S1x10 .f32) (ix2 0 j) = ratio j.val (rows X) (labels L) := by
  rw [value σ X L hX hL, beside_at]
  refine entries _ _ _ _ _ _ _ _ _ _ (fun k => ratio k (rows X) (labels L)) ?_ ?_ ?_ ?_ ?_ ?_ ?_ ?_ ?_ ?_ j
    <;> exact (single_at _).trans (binShare_at X L _ (by decide) _)

end Cert.ReferenceIdeal.Line

end
-- ==== Proof.lean ====
/-
  The claims, assembled: the kernel and the reference run and leave their arguments as they were, the named constants are
  the tenths, and the two result arrays hold the same extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import Idealize.ShloMosaic.Adequacy
public import Idealize.ShloMosaic.Init
public import proofs.«01_k».proof.Proof.Column
public import proofs.«01_k».proof.Proof.RefShare
public import Idealize.ShloMosaic.Lib.Quiescent

@[expose] public section

noncomputable section

namespace Cert.Proof

open Idealize.ShloMosaic Idealize.SL.Sem

/-- The reference runs, leaves its two arguments as they were, and ends with every semaphore at zero. -/
theorem reference_frame : quiescent_ReferenceIdeal := by
  intro m g _
  refine (Cert.ReferenceIdeal.Line.run m g).mono fun r hr => ⟨fun c => ⟨?_, ?_⟩, sem_eq_zero_of_no_sems (by decide) _⟩
  · exact (hr c _).trans (Cert.ReferenceIdeal.Line.arguments _).1
  · exact (hr c _).trans (Cert.ReferenceIdeal.Line.arguments _).2

/-- Each named constant of the idealized kernel is the tenth it approximates. -/
theorem constants : preserves_Kernel_KernelIdeal :=
  ⟨IdealRules.named_const.statement Cert.KernelIdeal.κ "tenth1" .f32 0x3DCCCCCD#32 ((1 / 10 : ℝ) : EReal) rfl,
    IdealRules.named_const.statement Cert.KernelIdeal.κ "tenth2" .f32 0x3E4CCCCD#32 ((1 / 5 : ℝ) : EReal) rfl,
    IdealRules.named_const.statement Cert.KernelIdeal.κ "tenth3" .f32 0x3E99999A#32 ((3 / 10 : ℝ) : EReal) rfl,
    IdealRules.named_const.statement Cert.KernelIdeal.κ "tenth4" .f32 0x3ECCCCCD#32 ((2 / 5 : ℝ) : EReal) rfl,
    IdealRules.named_const.statement Cert.KernelIdeal.κ "tenth6" .f32 0x3F19999A#32 ((3 / 5 : ℝ) : EReal) rfl,
    IdealRules.named_const.statement Cert.KernelIdeal.κ "tenth7" .f32 0x3F333333#32 ((7 / 10 : ℝ) : EReal) rfl,
    IdealRules.named_const.statement Cert.KernelIdeal.κ "tenth8" .f32 0x3F4CCCCD#32 ((4 / 5 : ℝ) : EReal) rfl,
    IdealRules.named_const.statement Cert.KernelIdeal.κ "tenth9" .f32 0x3F666666#32 ((9 / 10 : ℝ) : EReal) rfl⟩

/-- Two rows of ten entries that agree at each position are one. -/
theorem row_ext (f g : (⟨2, ![1, 10]⟩ : Shape).Idx → EReal) (h : ∀ j : Fin 10, f (ix2 0 j) = g (ix2 0 j)) : f = g := by
  funext i
  have hi : i = ix2 (0 : Fin 1) (i 1) :=
    (eq_ix2 i).trans (congrArg (fun k : Fin 1 => ix2 k (i 1)) (Subsingleton.elim (α := Fin 1) _ _))
  rw [hi]
  exact h (i 1)

/-- From equal arguments the idealized kernel and the reference end with equal results. -/
theorem results : algebraic_KernelIdeal_ReferenceIdeal := by
  intro m g m' g' _ hargs
  refine ⟨fun c => Cert.KernelIdeal.Value.G2 m c, ?_, ?_⟩
  · exact Cert.KernelIdeal.Value.run m g
  · refine (Cert.ReferenceIdeal.Line.run m' g').mono fun r hr c => ⟨?_, ?_, ?_⟩
    · refine (hr c _).trans (row_ext _ _ fun j => ?_)
      exact (Cert.ReferenceIdeal.Line.value_at _ _ _ (hargs c).1 (hargs c).2 j).trans
        (Cert.KernelIdeal.Body.result_at m c j).symm
    · exact (hr c _).trans (Cert.ReferenceIdeal.Line.arguments _).1
    · exact (hr c _).trans (Cert.ReferenceIdeal.Line.arguments _).2

/-- The claims of this certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, constants, results⟩

end Cert.Proof

end
